-- ==== Defs.lean ====
def Pre_Kernel [hPre_positions_in_table : Cert.Pre_positions_in_table.Facts] (m : (ℓ : Loc Cert.Kernel.nD Cert.Kernel.τ Cert.Kernel.sig) → Buf (Elt Bits) ℓ) : Prop :=
  ∀ c : Dev Cert.Kernel.nD,
    (Cert.Pre_positions_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_positions_in_table : Cert.Pre_positions_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_table [hPre_positions_in_table : Cert.Pre_positions_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_positions_in_table : Cert.Pre_positions_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_positions_in_table : Cert.Pre_positions_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positions_in_table [hReferenceIdeal : Cert.ReferenceIdeal.Facts] [hPre_positions_in_table : Cert.Pre_positions_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_table : Cert.Pre_positions_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positions_in_table : Cert.Pre_positions_in_table.Facts),
    quiescent_Kernel (hKernel := hKernel) (hPre_positions_in_table := hPre_positions_in_table)
    ∧ quiescent_KernelIdeal (hKernelIdeal := hKernelIdeal) (hPre_positions_in_table := hPre_positions_in_table)
    ∧ quiescent_ReferenceIdeal (hReferenceIdeal := hReferenceIdeal)
    ∧ quiescent_ReferenceIdeal_pre_positions_in_table (hReferenceIdeal := hReferenceIdeal) (hPre_positions_in_table := hPre_positions_in_table)
    ∧ preserves_Kernel_KernelIdeal
    ∧ algebraic_KernelIdeal_ReferenceIdeal (hKernelIdeal := hKernelIdeal) (hReferenceIdeal := hReferenceIdeal) (hPre_positions_in_table := hPre_positions_in_table)
-- ==== Pre_positions_in_table.lean ====
abbrev S100000x128 : Shape := ⟨2, ![100000, 128]⟩
abbrev S100000 : Shape := ⟨1, ![100000]⟩
abbrev S100000x16 : Shape := ⟨2, ![100000, 16]⟩
abbrev S128x144 : Shape := ⟨2, ![128, 144]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S100000x16 .f32) (main_arg3 : FVec F S128x144 .f32) (main_arg4 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 100000#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S100000 : Shape := ⟨1, ![100000]⟩
abbrev S100000x16 : Shape := ⟨2, ![100000, 16]⟩
abbrev S128x144 : Shape := ⟨2, ![128, 144]⟩
abbrev S128 : Shape := ⟨1, ![128]⟩
abbrev S_ : Shape := ⟨0, ![]⟩
abbrev S102400 : Shape := ⟨1, ![102400]⟩
abbrev S102400x16 : Shape := ⟨2, ![102400, 16]⟩
abbrev S3200 : Shape := ⟨1, ![3200]⟩
abbrev S3200x16 : Shape := ⟨2, ![3200, 16]⟩
abbrev S128x16 : Shape := ⟨2, ![128, 16]⟩
abbrev S12800x128 : Shape := ⟨2, ![12800, 128]⟩
abbrev S128x128 : Shape := ⟨2, ![128, 128]⟩
abbrev S16x128 : Shape := ⟨2, ![16, 128]⟩
abbrev S8x8 : Shape := ⟨2, ![8, 8]⟩
abbrev S8x1x8x1 : Shape := ⟨4, ![8, 1, 8, 1]⟩
abbrev S1x16x1x128 : Shape := ⟨4, ![1, 16, 1, 128]⟩
abbrev S8x16x8x128 : Shape := ⟨4, ![8, 16, 8, 128]⟩
abbrev S128x1024 : Shape := ⟨2, ![128, 1024]⟩
abbrev S1x128 : Shape := ⟨2, ![1, 128]⟩
abbrev S16384x128 : Shape := ⟨2, ![16384, 128]⟩
abbrev S2048x128 : Shape := ⟨2, ![2048, 128]⟩
abbrev S2048x1024 : Shape := ⟨2, ![2048, 1024]⟩

abbrev nBuf : Table → Nat
  | .hbm => 29
  | .local .tc .vmem => 9
  | .local .scVector .vmem => 2
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S100000x16, .f32⟩
  | .hbm, ⟨3, _⟩ => ⟨S128x144, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S102400, .i32⟩
  | .hbm, ⟨8, _⟩ => ⟨S102400x16, .f32⟩
  | .hbm, ⟨9, _⟩ => ⟨S12800x128, .f32⟩
  | .hbm, ⟨10, _⟩ => ⟨S128x128, .f32⟩
  | .hbm, ⟨11, _⟩ => ⟨S128x128, .f32⟩
  | .hbm, ⟨12, _⟩ => ⟨S128x16, .f32⟩
  | .hbm, ⟨13, _⟩ => ⟨S16x128, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S8x1x8x1, .f32⟩
  | .hbm, ⟨22, _⟩ => ⟨S1x16x1x128, .f32⟩
  | .hbm, ⟨23, _⟩ => ⟨S8x16x8x128, .f32⟩
  | .hbm, ⟨24, _⟩ => ⟨S8x16x8x128, .f32⟩
  | .hbm, ⟨25, _⟩ => ⟨S8x16x8x128, .f32⟩
  | .hbm, ⟨26, _⟩ => ⟨S128x1024, .f32⟩
  | .hbm, ⟨27, _⟩ => ⟨S1x128, .f32⟩
  | .hbm, ⟨28, _⟩ => ⟨S100000x128, .f32⟩
  | .local .tc .vmem, ⟨0, _⟩ => ⟨S16384x128, .f32⟩
  | .local .tc .vmem, ⟨1, _⟩ => ⟨S16384x128, .f32⟩
  | .local .tc .vmem, ⟨2, _⟩ => ⟨S2048x128, .f32⟩
  | .local .tc .vmem, ⟨3, _⟩ => ⟨S2048x128, .f32⟩
  | .local .tc .vmem, ⟨4, _⟩ => ⟨S128x1024, .f32⟩
  | .local .tc .vmem, ⟨5, _⟩ => ⟨S128x128, .f32⟩
  | .local .tc .vmem, ⟨6, _⟩ => ⟨S1x128, .f32⟩
  | .local .tc .vmem, ⟨7, _⟩ => ⟨S16384x128, .f32⟩
  | .local .tc .vmem, ⟨8, _⟩ => ⟨S16384x128, .f32⟩
  | .local .scVector .vmem, ⟨0, _⟩ => ⟨S3200, .i32⟩
  | .local .scVector .vmem, ⟨1, _⟩ => ⟨S3200x16, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_arg2_scv : Ref sig .scVector := ⟨.hbm, 2, rfl⟩
abbrev main_v0_scv : Ref sig .scVector := ⟨.hbm, 7, rfl⟩
abbrev main_v1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3200_i32 : BitVec 32 := 3200#32
  let v2 : BitVec 32 := Scalar.muli v1 c3200_i32
  ![v2.toNat]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3200_i32_225 : BitVec 32 := 3200#32
  let v153 : BitVec 32 := Scalar.muli v1 c3200_i32_225
  let c0_i32_226_r1 : BitVec 32 := 0#32
  ![v153.toNat, 0]
abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16384x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S100000x16 : Shape := ⟨2, ![100000, 16]⟩
abbrev S128x144 : Shape := ⟨2, ![128, 144]⟩
abbrev S128 : Shape := ⟨1, ![128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x144 : Shape := ⟨2, ![100000, 144]⟩
abbrev S144x128 : Shape := ⟨2, ![144, 128]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000x16, .f32⟩
  | .hbm, ⟨3, _⟩ => ⟨S128x144, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S1, .i32⟩
  | .hbm, ⟨22, _⟩ => ⟨S_, .i32⟩
  | .hbm, ⟨23, _⟩ => ⟨S100000x1, .i32⟩
  | .hbm, ⟨24, _⟩ => ⟨S100000x1, .i1⟩
  | .hbm, ⟨25, _⟩ => ⟨S1x1, .i32⟩
  | .hbm, ⟨26, _⟩ => ⟨S100000x1, .i32⟩
  | .hbm, ⟨27, _⟩ => ⟨S100000x1, .i1⟩
  | .hbm, ⟨28, _⟩ => ⟨S100000x1, .i1⟩
  | .hbm, ⟨29, _⟩ => ⟨S_, .i1⟩
  | .hbm, ⟨30, _⟩ => ⟨S100000, .i1⟩
  | .hbm, ⟨31, _⟩ => ⟨S100000x16, .f32⟩
  | .hbm, ⟨32, _⟩ => ⟨S100000x16, .i1⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S100000x144, .f32⟩
  | .hbm, ⟨37, _⟩ => ⟨S144x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩

abbrev nD : Nat := 1
abbrev τ : Topo := Topo.v7x

variable {F : FTy → Type} [FloatOps F]
-- ==== Proof.GatherBatch.lean ====
/-
  Several indirect gathers in flight on ONE DMA semaphore, before any of them is waited for.

  A gather of `o` rows is `o` row transfers, each crediting the semaphore with one row's amount. A run of gathers issued
  on one semaphore is therefore one batch (`Transfers.Batch`) whose transfers are ROWS, counted across all the gathers:
  a gather issued when `k` rows of the batch are out takes rows `k`, …, `k + o - 1`. `wp_gatherBatch` is the issue's rule
  in that form. What each row needs (its row of the destination, its entry of the offset list, a share of the table) is
  a family `X` over the rows of the whole batch, and what each row brings back is the batch's delivery `D`.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

/-! ## The rows not yet issued -/

section Pending

variable {M : Type} [URA M] {n : ℕ}

/-- Row `k + j` of a batch of `n` rows, for `j` below `o`, the `o` rows from `k` on lying in the batch. -/
def shifted (k o : ℕ) (h : k + o ≤ n) (j : Fin o) : Fin n := ⟨k + j.val, by omega⟩

theorem shifted_injective (k o : ℕ) (h : k + o ≤ n) : Function.Injective (shifted (n := n) k o h) := fun a b e =>
  Fin.ext (Nat.add_left_cancel (congrArg Fin.val e : k + a.val = k + b.val))

theorem mem_pending {k : ℕ} {t : Fin n} : t ∈ Transfers.pending (n := n) k ↔ k ≤ t.val := by
  unfold Transfers.pending
  rw [Finset.mem_filter]
  exact ⟨fun h => h.2, fun h => ⟨Finset.mem_univ _, h⟩⟩

/-- What is held of the rows from `k` on is what is held of the next `o`, and of the rows from `k + o` on. -/
theorem pending_split (Φ : Fin n → sProp M) (k o : ℕ) (h : k + o ≤ n) :
    bigSep (Transfers.pending k) Φ
      = iprop(bigSep Finset.univ (fun j => Φ (shifted k o h j)) ∗ bigSep (Transfers.pending (k + o)) Φ) := by
  classical
  have himg : (Transfers.pending (n := n) k)
      = (Finset.univ.map ⟨shifted k o h, shifted_injective k o h⟩) ∪ Transfers.pending (k + o) := by
    ext t
    rw [Finset.mem_union, Finset.mem_map, mem_pending, mem_pending]
    constructor
    · intro ht
      by_cases h' : k + o ≤ t.val
      · exact .inr h'
      · exact .inl ⟨⟨t.val - k, by omega⟩, Finset.mem_univ _, Fin.ext (show k + (t.val - k) = t.val by omega)⟩
    · rintro (⟨j, -, rfl⟩ | ht)
      · exact Nat.le_add_right k j.val
      · omega
  have hdis : Disjoint ((Finset.univ : Finset (Fin o)).map ⟨shifted k o h, shifted_injective k o h⟩) (Transfers.pending (n := n) (k + o)) := by
    rw [Finset.disjoint_left]
    intro t ht ht'
    obtain ⟨j, -, rfl⟩ := Finset.mem_map.mp ht
    have h1 : k + o ≤ k + j.val := mem_pending.mp ht'
    have h2 := j.isLt
    omega
  rw [himg, BI.bigSep_union hdis, BI.bigSep_map]
  rfl

end Pending

/-! ## The issue's rule -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants)
variable (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- A gather of `o` rows, `k` rows of the batch issued before it: from what the rows from `k` on need (`X`) and the batch
    at `k`, the tile issues the gather and goes on with what the rows from `k + o` on need and the batch at `k + o`.
    `hX` says what a row needs, `hD` what it brings: its row of the destination written with the table's row that its
    entry of the list names, its entry of the list, its share of the table. Every entry's word is in range (`hin`). -/
theorem wp_gatherBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {qo : PosShare TreeShare} {qk : Fin (s.size hg.axis') → PosShare TreeShare}
    {fs : Buf (Elt F) (src.view.loc c)} {fd : Buf (Elt F) (dst.view.loc c)} {fo : Buf (Elt F) (offs.view.loc c)}
    {n : ℕ} {D X : Fin n → sProp 𝕄} {k u : ℕ} (ι : Ix) (N : ℕ)
    (hN : ∀ j, (dst.slice (s.rowRect hg.axis' j) (s.stride_rowRect hg.axis' j)).view.dmaCredit = N)
    (hk : k + s.size hg.axis' ≤ n) (hu : u ≤ k * N)
    (hin : ∀ x, (offs.view.read (Elt F) fo x).toNat < s₀.size hg.axis)
    (hX : ∀ j, X (shifted k _ hk j) ⊢ iprop(((dst.view.loc c ↦[(dst.view.slice (s.rowRect hg.axis' j)).set]{fullShare} fd)
        ∗ (offs.view.loc c ↦[{offs.view.emb (si.rowMajor.symm (j.cast hn.symm))}]{qo} fo)) ∗ (src.view.loc c ↦[src.view.set]{qk j} fs)))
    (hD : ∀ j, iprop(((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ))
        ∗ (offs.view.loc c ↦[{offs.view.emb (si.rowMajor.symm (j.cast hn.symm))}]{qo} fo)) ∗ (src.view.loc c ↦[src.view.set]{qk j} fs))
        ⊢ D (shifted k _ hk j)) :
    iprop(bigSep (Transfers.pending k) X ∗ Transfers.Batch EC c (.dma sem) ι N D k u)
      ⊢ iprop((iprop(bigSep (Transfers.pending (k + s.size hg.axis')) X ∗ Transfers.Batch EC c (.dma sem) ι N D (k + s.size hg.axis') u)
              -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => show (rd j).dst.view.dmaCredit = N from hN j, Finset.sum_const, Finset.card_univ,
      Fintype.card_fin, smul_eq_mul]
  unfold Transfers.Batch
  iintro ⟨HX, ⟨%γ, %γ₀, %κ, #Hinv, HI, H0, Hcred⟩⟩ Hk
  ihave HX' := (Entails.of_eq (pending_split X k _ hk)) $$ HX
  icases HX' with ⟨HXn, HXr⟩
  ihave HI' := (Entails.of_eq (pending_split (fun t => count EC (γ t) 0) k _ hk)) $$ HI
  icases HI' with ⟨HIn, HIr⟩
  iapply (wp_enqueueIndirectDma 𝒱 c bd Set.univ (qo := qo) (fo := fo) (rd := rd) ι (s.size hg.axis' * N) hA hrd hsum) $$ [HXn HIn]
  · have hrow : ∀ j, iprop(inv κ (Transfers.batchBody EC (c, SemLoc.dma sem) N D γ γ₀)
          ∗ (X (shifted k _ hk j) ∗ count EC (γ (shifted k _ hk j)) 0))
        ⊢ iprop(S.heldEntry qo fo j ∗ (S.heldEntry qo fo j -∗ rowRes c (rd j))) := fun j => by
      iintro ⟨#Hinv, HXj, Hγj⟩
      ihave HXj' := (hX j) $$ HXj
      icases HXj' with ⟨⟨Hr, He⟩, Hsq⟩
      isplitl [He]; · iexact He
      iintro He
      unfold rowRes
      iexists qk j, fs, iprop((dst.view.loc c ↦[(dst.view.slice (s.rowRect hg.axis' j)).set]{fullShare}
        ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := Transfers.batch_creditUpdate EC (g := (c, SemLoc.dma sem)) (N := N) (D := D) (γ := γ) (γ₀ := γ₀) (ι := κ)
          (shifted k _ hk j) (hD j)
        have ham : (rd j).dst.view.amount (SemLoc.dma sem) = N := hN j
        rw [ham]
        iapply hcu
        isplitr; · iexact Hinv
        iexact Hγj
    unfold Stream.res
    ihave H1 := Transfers.bigSep_sep_in _ _ _ $$ [HXn HIn]; · isplitl [HXn] <;> iassumption
    iapply (Transfers.bigSep_mono_pers Finset.univ _ _ _ fun j _ => hrow j)
    isplitr; · iexact Hinv
    iexact H1
  · iintro Hcred'
    iapply Hk
    isplitl [HXr]; · iexact HXr
    iexists γ, γ₀, κ
    isplitr; · iexact Hinv
    isplitl [HIr]; · iexact HIr
    isplitl [H0]; · iexact H0
    rw [show (k + s.size hg.axis') * N - u = (k * N - u) + s.size hg.axis' * N by rw [Nat.add_mul]; omega, ← tallyAt_add]
    icombine Hcred Hcred' as H
    iexact H

end Cert.Proof.GatherBatch

end
-- ==== Proof.Base.lean ====
/-
  The set-up the two kernels' proofs share: the program as the launch theorem sees it, the resource algebra, the names of
  the buffers, and what the proof asks of the launch memory. Everything is over the KernelIdeal program at any float
  values `F`; Kernel is the same program text.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

abbrev 𝕄 (F : FTy → Type) : Type := MT nD τ sig (HIx 1) (Elt F) ℕ UU ℕ

abbrev EH : Emb UH (𝕄 F) := embL
abbrev EP : Emb UP (𝕄 F) := (Emb.inl : Emb UP (UP × Counters)).trans embR

/-! ## The buffers -/

abbrev xLoc (d : Dev nD) : Loc nD τ sig := (SparseCore.T d).loc main_arg0
abbrev posLoc (d : Dev nD) : Loc nD τ sig := (SparseCore.T d).loc main_arg1
abbrev tabLoc (d : Dev nD) : Loc nD τ sig := (SparseCore.T d).loc main_arg2
abbrev wLoc (d : Dev nD) : Loc nD τ sig := (SparseCore.T d).loc main_arg3
abbrev bLoc (d : Dev nD) : Loc nD τ sig := (SparseCore.T d).loc main_arg4
/-- The padded positions, and the gathered rows. -/
abbrev idxLoc (d : Dev nD) : Loc nD τ sig := (SparseCore.T d).loc main_v0
abbrev rowsLoc (d : Dev nD) : Loc nD τ sig := (SparseCore.T d).loc main_v1
abbrev outLoc (d : Dev nD) : Loc nD τ sig := (SparseCore.T d).loc main_v20

local notation "tabV" => (Memref.whole Cert.KernelIdeal.main_arg2_scv : Memref Cert.KernelIdeal.sig Kind.scVector Space.hbm Cert.KernelIdeal.S100000x16 EltTy.f32)
local notation "idxV" => (Memref.whole Cert.KernelIdeal.main_v0_scv : Memref Cert.KernelIdeal.sig Kind.scVector Space.hbm Cert.KernelIdeal.S102400 EltTy.i32)
local notation "outV" => (Memref.whole Cert.KernelIdeal.main_v1_scv : Memref Cert.KernelIdeal.sig Kind.scVector Space.hbm Cert.KernelIdeal.S102400x16 EltTy.f32)
local notation "listV" => (Memref.whole Cert.KernelIdeal.cc0_scratch0 : Memref Cert.KernelIdeal.sig Kind.scVector Space.vmem Cert.KernelIdeal.S3200 EltTy.i32)
local notation "bufV" => (Memref.whole Cert.KernelIdeal.cc0_scratch1 : Memref Cert.KernelIdeal.sig Kind.scVector Space.vmem Cert.KernelIdeal.S3200x16 EltTy.f32)

/-! ## The task's body, its twenty-five gathers and twenty-five waits counted -/

section Body

variable [FloatOps F] (i : grid0.Coords)

/-- The task's own program type. -/
abbrev TProg (F : FTy → Type) (i : grid0.Coords) : Type 1 :=
  Prog (TpuEff nD τ sig (Elt F) Λ₀ (.scVector ((i 0).castLE hcore0) ((i 1).castLE hsub0))) PUnit

theorem win_inb {k : ℕ} (h : k < 25) : ∀ a, (![128 * k, 0] : Fin 2 → Nat) a + S128x16.size a ≤ S3200x16.size a
  | 0 => show 128 * k + 128 ≤ 3200 by omega
  | 1 => show 0 + 16 ≤ 16 by omega
theorem lst_inb {k : ℕ} (h : k < 25) : ∀ a, (![128 * k] : Fin 1 → Nat) a + S128.size a ≤ S3200.size a
  | 0 => show 128 * k + 128 ≤ 3200 by omega

/-- All of the table; window `k` of the row buffer; window `k` of the index list. -/
abbrev tabAll : Memref sig .scVector .hbm S100000x16 .f32 :=
  (tabV).slice (Rect.unit (s := S100000x16) ![0, 0] S100000x16.size inb_S100000x16_S100000x16_0_0) (fun _ => rfl)
abbrev win (k : ℕ) (h : k < 25) : Memref sig .scVector .vmem S128x16 .f32 :=
  (bufV).slice (Rect.unit (s := S3200x16) ![128 * k, 0] S128x16.size (win_inb h)) (fun _ => rfl)
abbrev lst (k : ℕ) (h : k < 25) : Memref sig .scVector .vmem S128 .i32 :=
  (listV).slice (Rect.unit (s := S3200) ![128 * k] S128.size (lst_inb h)) (fun _ => rfl)

/-- The task's block of the padded positions, and of the gathered rows. -/
abbrev idxBlk : Memref sig .scVector .hbm S3200 .i32 := (idxV).slice (Rect.unit (s := S102400) (k0_off1 i) S3200.size (k0_off1_inb i)) (fun _ => rfl)
abbrev outBlk : Memref sig .scVector .hbm S3200x16 .f32 := (outV).slice (Rect.unit (s := S102400x16) (k0_off2 i) S3200x16.size (k0_off2_inb i)) (fun _ => rfl)

/-- The gathers from number `k` on, `m` of them left, and then `p`. -/
def issueFrom : (m k : ℕ) → k + m = 25 → TProg F i → TProg F i
  | 0, _, _, p => p
  | m + 1, k, h, p =>
    SparseCore.enqueueIndirectGather rfl tabAll (win k (by omega)) gathers_S100000x16_S128x16 (lst k (by omega)) rfl cc0_scratch2.sem
        (View.wordExact_bits rfl) rfl (Or.inl rfl)
      >>= fun _ => issueFrom m (k + 1) (by omega) p

/-- The waits from number `k` on, `m` of them left, and then `p`. -/
def waitFrom : (m k : ℕ) → k + m = 25 → TProg F i → TProg F i
  | 0, _, _, p => p
  | m + 1, k, h, p =>
    SparseCore.waitIndirectGather cc0_scratch2.sem tabAll (win k (by omega)) (View.wordExact_bits rfl) (View.wordExact_bits rfl)
      >>= fun _ => waitFrom m (k + 1) (by omega) p

/-- The write-out of the row buffer. -/
def writeOut : TProg F i := do
  Prog.lift (.enqueueDma bufV (.here (outBlk i)) (.dma cc0_scoped1.sem) (Memref.isWhole_whole _).wordExact (View.wordExact_bits rfl) ⟨Or.inl rfl, trivial⟩)
  Prog.lift (.waitDma2 cc0_scoped1.sem bufV (outBlk i) (Memref.isWhole_whole _).wordExact (View.wordExact_bits rfl))
  pure ⟨⟩

/-- The task: the fetch of its positions, the gathers, their waits, the write-out. -/
def body : TProg F i := do
  Prog.lift (.enqueueDma (idxBlk i) (.here listV) (.dma cc0_scoped0.sem) (View.wordExact_bits rfl) (Memref.isWhole_whole _).wordExact ⟨Or.inl rfl, trivial⟩)
  Prog.lift (.waitDma2 cc0_scoped0.sem (idxBlk i) listV (View.wordExact_bits rfl) (Memref.isWhole_whole _).wordExact)
  issueFrom i 25 0 rfl (waitFrom i 25 0 rfl (writeOut i))

set_option maxRecDepth 65536 in
theorem body_eq : cc0_gather_kernel (F := F) i tabV (Memref.isWhole_whole _) idxV (Memref.isWhole_whole _) outV (Memref.isWhole_whole _)
    listV (Memref.isWhole_whole _) bufV (Memref.isWhole_whole _) cc0_scratch2 cc0_scoped0 cc0_scoped1 = body i := rfl

end Body

end Cert.Proof.Run

end
-- ==== Proof.GatherRun.lean ====
/-
  The task's twenty-five gathers and their waits: 3200 rows of the table, as one batch of rows on the task's semaphore.
  Row `128 k + j` of the row buffer is row `j` of gather `k`'s window, and entry `128 k + j` of the index list is entry `j`
  of gather `k`'s window of the list. Once all twenty-five waits are through, row `t` of the row buffer is the row of the
  table that entry `t` of the list names (`picked`).
-/
module

public import proofs.«01_k».proof.Proof.Base
public import Idealize.ShloMosaic.Lib.ValueIdx

@[expose] public section

noncomputable section

namespace Cert.Proof.Run

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (wp_gatherBatch shifted)

variable {F : FTy → Type}

local notation "tabV" => (Memref.whole Cert.KernelIdeal.main_arg2_scv : Memref Cert.KernelIdeal.sig Kind.scVector Space.hbm Cert.KernelIdeal.S100000x16 EltTy.f32)
local notation "listV" => (Memref.whole Cert.KernelIdeal.cc0_scratch0 : Memref Cert.KernelIdeal.sig Kind.scVector Space.vmem Cert.KernelIdeal.S3200 EltTy.i32)
local notation "bufV" => (Memref.whole Cert.KernelIdeal.cc0_scratch1 : Memref Cert.KernelIdeal.sig Kind.scVector Space.vmem Cert.KernelIdeal.S3200x16 EltTy.f32)

/-! ## What is gathered -/

/-- The table's row a word names: its value, which the words the kernel is run on keep below the table's height. -/
def rowNo (w : BitVec 32) : Fin 100000 := ⟨w.toNat % 100000, Nat.mod_lt _ (by omega)⟩

theorem rowNo_val {w : BitVec 32} (h : w.toNat < 100000) : (rowNo w).val = w.toNat := Nat.mod_eq_of_lt h

/-- Row `t` is the row of the table that entry `t` of the list names. -/
def picked {n : ℕ} (ft : S100000x16.Idx → F .f32) (fl : (⟨1, ![n]⟩ : Shape).Idx → BitVec 32) : (⟨2, ![n, 16]⟩ : Shape).Idx → F .f32 :=
  fun x => ft (ix2 (rowNo (fl (ix1 (x 0)))) (x 1))

/-! ## The windows' rows and entries are the buffer's -/

theorem axis_lt {k : ℕ} (hk : k < 25) (j : Fin 128) : 128 * k + j.val < 3200 := by omega

/-- The row buffer's elements of row `t`. -/
abbrev bufRow (t : Fin 3200) : Finset S3200x16.Idx := ((bufV).view.slice (S3200x16.rowRect 0 t)).set
/-- The index list's entry `t`. -/
abbrev listEntry (t : Fin 3200) : S3200.Idx := ix1 t

theorem mem_bufRow {t : Fin 3200} {x : S3200x16.Idx} : x ∈ bufRow t ↔ x 0 = t := by
  constructor
  · intro h
    obtain ⟨i, -, rfl⟩ := Finset.mem_map.mp h
    exact Shape.rowRect_emb_axis (s := S3200x16) 0 t i
  · rintro rfl
    exact Finset.mem_map.mpr ⟨S3200x16.rowProj 0 x, Finset.mem_univ _, Shape.rowRect_emb_rowProj (s := S3200x16) 0 x⟩

/-- The elements of a window's row, in the buffer. -/
theorem win_row_emb {k : ℕ} (hk : k < 25) (j : Fin 128) (y : (S128x16.rowShape 0).Idx) :
    (((win k hk).view.slice (S128x16.rowRect 0 j)).emb y : S3200x16.Idx) = ix2 ⟨128 * k + j.val, axis_lt hk j⟩ (show Fin 16 from y (1 : Fin 2)) := by
  have h0 : ((S128x16.rowRect 0 j).emb y 0).val = j.val := congrArg Fin.val (Shape.rowRect_emb_axis (s := S128x16) 0 j y)
  have h1 : ((S128x16.rowRect 0 j).emb y (1 : Fin 2)).val = (y (1 : Fin 2)).val := Shape.rowRect_emb_of_ne (s := S128x16) 0 j y (b := (1 : Fin 2)) (by decide)
  funext a
  match a with
  | ⟨0, _⟩ =>
    apply Fin.ext
    show 128 * k + 1 * ((S128x16.rowRect 0 j).emb y 0).val = 128 * k + j.val
    rw [h0, Nat.one_mul]
  | ⟨1, _⟩ =>
    apply Fin.ext
    show 0 + 1 * ((S128x16.rowRect 0 j).emb y (1 : Fin 2)).val = (y (1 : Fin 2)).val
    rw [h1]; omega

theorem win_row_set {k : ℕ} (hk : k < 25) (j : Fin 128) :
    (((win k hk).view.slice (S128x16.rowRect 0 j)).set : Finset S3200x16.Idx) = bufRow ⟨128 * k + j.val, axis_lt hk j⟩ := by
  ext x
  rw [mem_bufRow]
  constructor
  · intro h
    obtain ⟨y, -, rfl⟩ := Finset.mem_map.mp h
    exact congrFun (win_row_emb hk j y) 0
  · intro h
    refine Finset.mem_map.mpr ⟨fun (b : Fin 2) => match b with | ⟨0, _⟩ => (0 : Fin 1) | ⟨1, _⟩ => (show Fin 16 from x 1), Finset.mem_univ _, ?_⟩
    refine (win_row_emb hk j _).trans ?_
    rw [← h]
    exact (eq_ix2 (n0 := 3200) (n1 := 16) x).symm

theorem lst_entry {k : ℕ} (hk : k < 25) (j : Fin 128) (hn : S128.numel = 128) :
    ((lst k hk).view.emb (S128.rowMajor.symm (j.cast hn.symm)) : S3200.Idx) = listEntry ⟨128 * k + j.val, axis_lt hk j⟩ := by
  have h0 : ((S128.rowMajor.symm (j.cast hn.symm)) 0).val = j.val := by
    have h := Shape.rowMajor_val_one (d := ![128]) (S128.rowMajor.symm (j.cast hn.symm))
    rw [Equiv.apply_symm_apply] at h
    exact h.symm
  funext a
  match a with
  | ⟨0, _⟩ =>
    apply Fin.ext
    show 128 * k + 1 * ((S128.rowMajor.symm (j.cast hn.symm)) 0).val = 128 * k + j.val
    rw [h0, Nat.one_mul]

/-- The number of units one row credits. -/
abbrev rowUnits : ℕ := ((bufV).slice (S3200x16.rowRect 0 (0 : Fin 3200)) (S3200x16.stride_rowRect 0 (0 : Fin 3200))).view.dmaCredit

theorem rowUnits_pos : 0 < rowUnits := View.dmaCredit_pos _ (SparseCore.rowShape_numel_pos (by decide) _)

theorem win_row_units {k : ℕ} (hk : k < 25) (j : Fin 128) :
    ((win k hk).slice (S128x16.rowRect 0 j) (S128x16.stride_rowRect 0 j)).view.dmaCredit = rowUnits := rfl

theorem win_units {k : ℕ} (hk : k < 25) : (win k hk).view.dmaCredit = 128 * rowUnits := by decide +revert

/-! ## The run -/

section Run

variable [FloatOps F] (d : Dev nD) (L : grid0.Coords)

abbrev cV (L : grid0.Coords) : Fin τ.nSC := (L 0).castLE hcore0
abbrev jV (L : grid0.Coords) : Fin τ.nSub := (L 1).castLE hsub0

variable (q : PosShare TreeShare) (fr : S3200x16.Idx → F .f32) (fl : S3200.Idx → BitVec 32) (ft : S100000x16.Idx → F .f32)

/-- What row `t` needs, the row buffer at contents `fr`: its row of the buffer, its entry of the list, a share of the
    table. With `fr` what is gathered, it is what the row brings back. -/
def rowAt (t : Fin 3200) : sProp (𝕄 F) :=
  iprop((((bufV).view.loc (V d (cV L) (jV L)) ↦[bufRow t]{fullShare} fr)
      ∗ ((listV).view.loc (V d (cV L) (jV L)) ↦[{listEntry t}]{fullShare} fl))
    ∗ ((tabAll).view.loc (V d (cV L) (jV L)) ↦[(tabAll).view.set]{pieceOf q 3200 (by omega) t} ft))

instance rowAt_storable (t : Fin 3200) : BI.Storable (upEmb : UEmb _ (𝕄 F)) (rowAt d L q fr fl ft t) := by
  unfold rowAt; infer_instance

/-- The batch of the 3200 rows, `k` issued and `u` units consumed. -/
abbrev rowBatch (k u : ℕ) : sProp (𝕄 F) :=
  Transfers.Batch countersEmb (V d (cV L) (jV L)) (SemLoc.dma cc0_scratch2.sem) (default : HIx 1) rowUnits (rowAt d L q (picked ft fl) fl ft) k u

variable {Q : PUnit → sProp (𝕄 F)}

theorem list_read {k : ℕ} (hk : k < 25) (x : S128.Idx) :
    (lst k hk).view.read (Elt F) fl x = fl ((lst k hk).view.emb x) := rfl

/-- The row of window `k`, its entry and its share of the table are row `128 k + j`'s. -/
theorem rowAt_win {k : ℕ} (hk : k < 25) (j : Fin 128) (hn : S128.numel = 128) :
    rowAt d L q fr fl ft ⟨128 * k + j.val, axis_lt hk j⟩
      = iprop((((win k hk).view.loc (V d (cV L) (jV L)) ↦[((win k hk).view.slice (S128x16.rowRect 0 j)).set]{fullShare} fr)
          ∗ ((lst k hk).view.loc (V d (cV L) (jV L)) ↦[{(lst k hk).view.emb (S128.rowMajor.symm (j.cast hn.symm))}]{fullShare} fl))
        ∗ ((tabAll).view.loc (V d (cV L) (jV L)) ↦[(tabAll).view.set]{pieceOf q 3200 (by omega) ⟨128 * k + j.val, axis_lt hk j⟩} ft)) := by
  rw [win_row_set, lst_entry hk j hn]
  rfl

/-- A window's row written with the table's row its entry names holds what is gathered there. -/
theorem win_row_written (hin : ∀ j, (fl j).toNat < 100000) {k : ℕ} (hk : k < 25) (j : Fin 128) (hn : S128.numel = 128)
    (h : ∀ x, ((lst k hk).view.read (Elt F) fl x).toNat < 100000) :
    ∀ x ∈ ((win k hk).view.slice (S128x16.rowRect 0 j)).set,
      (((win k hk).view.slice (S128x16.rowRect 0 j)).write (Elt F) fr
        (fun i => (tabAll).view.read (Elt F) ft (gathers_S100000x16_S128x16.rowIdx (SparseCore.rows ((lst k hk).view.read (Elt F) fl) hn h j) i))
        Finset.univ : S3200x16.Idx → F .f32) x = picked ft fl x := by
  intro x hx
  obtain ⟨y, -, rfl⟩ := Finset.mem_map.mp hx
  refine (View.write_emb_of_mem _ _ (Finset.mem_univ y)).trans ?_
  refine Eq.trans ?_ (congrArg (picked ft fl) (win_row_emb hk j y)).symm
  show ft _ = ft _
  congr 1
  funext a
  match a with
  | ⟨0, _⟩ =>
    apply Fin.ext
    have e : _ = ix1 (⟨128 * k + j.val, axis_lt hk j⟩ : Fin 3200) := lst_entry hk j hn
    show 0 + 1 * (fl ((lst k hk).view.emb (S128.rowMajor.symm (j.cast hn.symm)))).toNat = (rowNo (fl (ix1 ⟨128 * k + j.val, axis_lt hk j⟩))).val
    rw [e, rowNo_val (hin _)]; omega
  | ⟨1, _⟩ =>
    apply Fin.ext
    show 0 + 1 * (y (1 : Fin 2)).val = (y (1 : Fin 2)).val
    omega

theorem wp_issueFrom (hin : ∀ j, (fl j).toNat < 100000) (p : TProg F L) : ∀ (m k : ℕ) (h : k + m = 25),
    iprop(bigSep (Transfers.pending (128 * k)) (rowAt d L q fr fl ft) ∗ rowBatch d L q fl ft (128 * k) 0)
      ⊢ iprop((rowBatch d L q fl ft 3200 0 -∗ wp frame (wpE (defs₀ (F := F)) 𝒱₀ (V d (cV L) (jV L)) none) Set.univ p Q)
          -∗ wp frame (wpE (defs₀ (F := F)) 𝒱₀ (V d (cV L) (jV L)) none) Set.univ (issueFrom L m k h p) Q)
  | 0, k, h => by
    obtain rfl : k = 25 := by omega
    iintro ⟨-, HB⟩ Hk
    iapply Hk
    iexact HB
  | m + 1, k, h => by
    have hk : k < 25 := by omega
    have ih := wp_issueFrom hin p m (k + 1) (by omega)
    have hr := fun j hn => rowAt_win (F := F) d L q fr fl ft hk j hn
    have hr' := fun j hn => rowAt_win (F := F) d L q (picked ft fl) fl ft hk j hn
    rw [issueFrom]
    iintro ⟨HX, HB⟩ Hk
    iapply (wp_gatherBatch (F := F) countersEmb 𝒱₀ (V d (cV L) (jV L)) none (src := tabAll) (dst := win k hk) (offs := lst k hk)
      (hg := gathers_S100000x16_S128x16) (qo := fullShare)
      (qk := fun j => pieceOf q 3200 (by omega) ⟨128 * k + j.val, axis_lt hk j⟩) (fs := ft) (fd := fr) (fo := fl)
      (X := rowAt d L q fr fl ft) (D := rowAt d L q (picked ft fl) fl ft)
      (default : HIx 1) rowUnits (fun j => win_row_units hk j) (show 128 * k + 128 ≤ 3200 by omega) (Nat.zero_le _)
      (fun x => hin _) (fun j => Entails.of_eq (hr j rfl))
      (fun j => Entails.of_eq ((congrArg (fun P => iprop((P ∗ _) ∗ _))
        (pointsTo_congr (win_row_written (F := F) fr fl ft hin hk j rfl (fun x => hin _)))).trans (hr' j rfl).symm))) $$ [HX HB]
    · isplitl [HX]; · iexact HX
      iexact HB
    · iintro ⟨HX, HB⟩
      iapply ih $$ [HX HB] [Hk]
      · isplitl [HX]; · iexact HX
        iexact HB
      · iexact Hk

theorem wp_waitFrom (O : CellTallies nD τ sig (HIx 1)) (W : Waits sig (HIx 1)) (p : TProg F L) : ∀ (m k : ℕ) (h : k + m = 25),
    iprop(rowBatch d L q fl ft 3200 (128 * k * rowUnits)
        ∗ (∃ W', ⌜∀ x ∈ W', x ∈ W ∨ x.2 = none⌝ ∗ owes (V d (cV L) (jV L)) O W')
        ∗ □ MayWait (V d (cV L) (jV L)) (SemLoc.dma cc0_scratch2.sem) (default : HIx 1) O)
      ⊢ iprop((iprop(rowBatch d L q fl ft 3200 (rowUnits * 3200) ∗ ∃ W', ⌜∀ x ∈ W', x ∈ W ∨ x.2 = none⌝ ∗ owes (V d (cV L) (jV L)) O W')
            -∗ wp frame (wpE (defs₀ (F := F)) 𝒱₀ (V d (cV L) (jV L)) none) Set.univ p Q)
          -∗ wp frame (wpE (defs₀ (F := F)) 𝒱₀ (V d (cV L) (jV L)) none) Set.univ (waitFrom L m k h p) Q)
  | 0, k, h => by
    obtain rfl : k = 25 := by omega
    iintro ⟨HB, HO, -⟩ Hk
    iapply Hk
    rw [Nat.mul_comm rowUnits 3200]
    isplitl [HB]; · iexact HB
    iexact HO
  | m + 1, k, h => by
    have hk : k < 25 := by omega
    have ih := wp_waitFrom O W p m (k + 1) (by omega)
    have hu : 128 * k * rowUnits + 128 * rowUnits ≤ rowUnits * 3200 := by
      rw [← Nat.add_mul, Nat.mul_comm rowUnits]
      exact Nat.mul_le_mul_right _ (by omega)
    rw [show 128 * (k + 1) * rowUnits = 128 * k * rowUnits + 128 * rowUnits by rw [← Nat.add_mul]; rfl] at ih
    rw [waitFrom]
    iintro ⟨HB, ⟨%W', %hW', HO⟩, #Hmw⟩ Hk
    iapply (Transfers.wp_waitBatchMulO countersEmb 𝒱₀ (V d (cV L) (jV L)) none (default : HIx 1) (N := rowUnits) 128 (win_units hk) hu) $$ [HB HO]
    · isplitl [HB]; · iexact HB
      isplitl [HO]; · iexact HO
      iexact Hmw
    · iintro ⟨HB, HO⟩
      iapply ih $$ [HB HO] [Hk]
      · isplitl [HB]; · iexact HB
        isplitl [HO]
        · iexists _; isplitr
          swap; · iexact HO
          ipureintro; intro x hx
          rcases Finset.mem_insert.mp hx with hx | hx
          · exact .inr (hx ▸ rfl)
          · exact hW' x hx
        · imodintro; iexact Hmw
      · iexact Hk

omit [FloatOps F] in
theorem sep_assoc_eq (A B C : sProp (𝕄 F)) : iprop((A ∗ B) ∗ C) = iprop(A ∗ B ∗ C) := by
  refine BI.Entails.antisymm ?_ ?_
  · show iprop((A ∗ B) ∗ C) ⊢ iprop(A ∗ B ∗ C)
    iintro ⟨⟨H1, H2⟩, H3⟩
    isplitl [H1]; · iexact H1
    isplitl [H2]; · iexact H2
    iexact H3
  · show iprop(A ∗ B ∗ C) ⊢ iprop((A ∗ B) ∗ C)
    iintro ⟨H1, H2, H3⟩
    isplitl [H1 H2]
    · isplitl [H1]; · iexact H1
      iexact H2
    iexact H3

/-- The row buffer, the list and the table's share, cut into what the 3200 rows need. -/
theorem rows_all : (iprop(((bufV).view.loc (V d (cV L) (jV L)) ↦{fullShare} fr) ∗ ((listV).view.loc (V d (cV L) (jV L)) ↦{fullShare} fl)
      ∗ ((tabV).view.loc (V d (cV L) (jV L)) ↦{q} ft)) : sProp (𝕄 F)) = bigSep Finset.univ (rowAt d L q fr fl ft) := by
  have h1 := pointsTo_rows (Ix := HIx 1) (Val := Elt F) (Name := ℕ) (U := UU) (Lvl := ℕ) (c := V d (cV L) (jV L)) (bufV).view (0 : Fin 2) fullShare fr
  have h2 := pointsTo_entries (Ix := HIx 1) (Val := Elt F) (Name := ℕ) (U := UU) (Lvl := ℕ) (c := V d (cV L) (jV L)) (listV).view listEntry
    ⟨fun a b h => congrFun h 0, fun x => ⟨x 0, (eq_ix1 x).symm⟩⟩ fullShare fl
  have h3 := pointsTo_piecesOf (nD := nD) (τ := τ) (sig := sig) (Ix := HIx 1) (Val := Elt F) (Name := ℕ) (U := UU) (Lvl := ℕ)
    (ℓ := (tabV).view.loc (V d (cV L) (jV L))) Finset.univ ft (o := 3200) (by omega) q
  rw [show (bufV).view.set = Finset.univ from View.set_whole _] at h1
  rw [show (listV).view.set = Finset.univ from View.set_whole _] at h2
  have h4 : (tabAll).view.set = (Finset.univ : Finset S100000x16.Idx) := by
    refine Finset.eq_univ_iff_forall.mpr fun x => Finset.mem_map.mpr ⟨x, Finset.mem_univ _, ?_⟩
    funext a
    match a with
    | ⟨0, _⟩ => exact Fin.ext (show 0 + 1 * (x 0).val = (x 0).val by omega)
    | ⟨1, _⟩ => exact Fin.ext (show 0 + 1 * (x 1).val = (x 1).val by omega)
  unfold rowAt
  rw [bigSep_sep', bigSep_sep', h4]
  refine (congrArg₂ (fun A B => iprop(A ∗ B)) h1 (congrArg₂ (fun A B => iprop(A ∗ B)) h2 h3)).trans ?_
  exact (sep_assoc_eq _ _ _).symm

/-- All the gathers and their waits: the row buffer ends at the rows picked, the list and the table's share as they were. -/
theorem gather_all (hin : ∀ j, (fl j).toNat < 100000) (O : CellTallies nD τ sig (HIx 1)) (W : Waits sig (HIx 1)) (p : TProg F L) :
    iprop((((bufV).view.loc (V d (cV L) (jV L)) ↦{fullShare} fr) ∗ ((listV).view.loc (V d (cV L) (jV L)) ↦{fullShare} fl)
          ∗ ((tabV).view.loc (V d (cV L) (jV L)) ↦{q} ft))
        ∗ semVal (V d (cV L) (jV L), SemLoc.dma cc0_scratch2.sem) 0
        ∗ owes (V d (cV L) (jV L)) O W
        ∗ □ MayWait (V d (cV L) (jV L)) (SemLoc.dma cc0_scratch2.sem) (default : HIx 1) O)
      ⊢ iprop((iprop((((bufV).view.loc (V d (cV L) (jV L)) ↦{fullShare} picked ft fl) ∗ ((listV).view.loc (V d (cV L) (jV L)) ↦{fullShare} fl)
              ∗ ((tabV).view.loc (V d (cV L) (jV L)) ↦{q} ft))
            ∗ semVal (V d (cV L) (jV L), SemLoc.dma cc0_scratch2.sem) 0
            ∗ ∃ W', ⌜∀ x ∈ W', x ∈ W ∨ x.2 = none⌝ ∗ owes (V d (cV L) (jV L)) O W')
            -∗ wp frame (wpE (defs₀ (F := F)) 𝒱₀ (V d (cV L) (jV L)) none) Set.univ p Q)
          -∗ wp frame (wpE (defs₀ (F := F)) 𝒱₀ (V d (cV L) (jV L)) none) Set.univ (issueFrom L 25 0 rfl (waitFrom L 25 0 rfl p)) Q) := by
  rw [rows_all, rows_all, Transfers.bigSep_pending_zero (rowAt d L q fr fl ft)]
  iintro ⟨HX, Hv, HO, #Hmw⟩ Hk
  imod (Transfers.batch_alloc' countersEmb (V d (cV L) (jV L)) (default : HIx 1) rowUnits (rowAt d L q (picked ft fl) fl ft)) $$ Hv with HB
  iapply (wp_issueFrom (F := F) d L q fr fl ft hin (waitFrom L 25 0 rfl p) 25 0 rfl) $$ [HX HB]
  · isplitl [HX]; · iexact HX
    iexact HB
  iintro HB
  iapply (wp_waitFrom (F := F) d L q fl ft O W p 25 0 rfl) $$ [HB HO]
  · isplitl [HB]; · rw [Nat.mul_zero, Nat.zero_mul]; iexact HB
    isplitl [HO]
    · iexists W; isplitr
      · ipureintro; exact fun x hx => .inl hx
      · iexact HO
    · imodintro; iexact Hmw
  iintro ⟨HB, HO⟩
  imod (Transfers.batch_collect' countersEmb (V d (cV L) (jV L)) rowUnits_pos) $$ HB with ⟨HD, Hv⟩
  iapply Hk
  isplitl [HD]; · iexact HD
  isplitl [Hv]; · iexact Hv
  iexact HO

end Run

end Cert.Proof.Run

end
-- ==== Proof.Tile.lean ====
/-
  One task of the kernel, on vector subcore `(core, subcore)`, whose number is `16 * core + subcore`: it fetches its block of
  3200 padded positions, gathers the rows of the table they name, and writes them out as its block of the gathered rows. The
  thirty-two blocks tile both arrays, and each task reads the table through its own share.
-/
module

public import proofs.«01_k».proof.Proof.GatherRun

@[expose] public section

noncomputable section

namespace Cert.Proof.Run

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "tabV" => (Memref.whole Cert.KernelIdeal.main_arg2_scv : Memref Cert.KernelIdeal.sig Kind.scVector Space.hbm Cert.KernelIdeal.S100000x16 EltTy.f32)
local notation "idxV" => (Memref.whole Cert.KernelIdeal.main_v0_scv : Memref Cert.KernelIdeal.sig Kind.scVector Space.hbm Cert.KernelIdeal.S102400 EltTy.i32)
local notation "outV" => (Memref.whole Cert.KernelIdeal.main_v1_scv : Memref Cert.KernelIdeal.sig Kind.scVector Space.hbm Cert.KernelIdeal.S102400x16 EltTy.f32)
local notation "listV" => (Memref.whole Cert.KernelIdeal.cc0_scratch0 : Memref Cert.KernelIdeal.sig Kind.scVector Space.vmem Cert.KernelIdeal.S3200 EltTy.i32)
local notation "bufV" => (Memref.whole Cert.KernelIdeal.cc0_scratch1 : Memref Cert.KernelIdeal.sig Kind.scVector Space.vmem Cert.KernelIdeal.S3200x16 EltTy.f32)

/-! ## The thirty-two blocks -/

theorem idiv : 32 ∣ S102400.size 0 := ⟨3200, rfl⟩
theorem odiv : 32 ∣ S102400x16.size 0 := ⟨3200, rfl⟩
abbrev idxRect (w : Fin 32) : Rect S102400 := Rect.part (s := S102400) (a₀ := 0) idiv w
abbrev outRect (w : Fin 32) : Rect S102400x16 := Rect.part (s := S102400x16) (a₀ := 0) odiv w
/-- The elements of block `w` of the padded positions, and of the gathered rows. -/
abbrev idxSet (w : Fin 32) : Finset S102400.Idx := (idxRect w).set
abbrev outSet (w : Fin 32) : Finset S102400x16.Idx := (outRect w).set

/-- The task's number. -/
def taskNo (L : grid0.Coords) : Fin 32 :=
  ⟨16 * (L 0).val + (L 1).val, by have h0 : (L 0).val < 2 := (L 0).isLt; have h1 : (L 1).val < 16 := (L 1).isLt; omega⟩

section Tile

variable (d : Dev nD) (L : grid0.Coords)

theorem idxRect_eq : Rect.unit (s := S102400) (k0_off1 L) S3200.size (k0_off1_inb L) = idxRect (taskNo L) := by
  unfold idxRect Rect.part Rect.block
  congr 1 <;> funext a
  · rw [k0_off1_eq]
    match a with
    | 0 =>
      show 51200 * (L 0).val + 3200 * (L 1).val = (16 * (L 0).val + (L 1).val) * 3200
      omega
  · match a with
    | 0 => rfl
theorem outRect_eq : Rect.unit (s := S102400x16) (k0_off2 L) S3200x16.size (k0_off2_inb L) = outRect (taskNo L) := by
  unfold outRect Rect.part Rect.block
  congr 1 <;> funext a
  · rw [k0_off2_eq]
    match a with
    | 0 =>
      show 51200 * (L 0).val + 3200 * (L 1).val = (16 * (L 0).val + (L 1).val) * 3200
      omega
    | 1 => rfl
  · match a with
    | 0 => rfl
    | 1 => rfl

theorem set_idxBlk : (idxBlk L).view.set = idxSet (taskNo L) := by
  show ((View.whole (main_v0_scv : Ref sig .scVector)).slice _).set = _
  rw [View.set_slice, idxRect_eq]; exact Finset.map_refl
theorem set_outBlk : (outBlk L).view.set = outSet (taskNo L) := by
  show ((View.whole (main_v1_scv : Ref sig .scVector)).slice _).set = _
  rw [View.set_slice, outRect_eq]; exact Finset.map_refl

/-- Element `y` of the task's block of the gathered rows, in the array. -/
theorem outBlk_emb (y : S3200x16.Idx) :
    ((outBlk L).view.emb y : S102400x16.Idx)
      = ix2 (((idxBlk L).view.emb (ix1 (y 0)) : S102400.Idx) 0) (y 1) := by
  funext a
  match a with
  | ⟨0, _⟩ =>
    apply Fin.ext
    show k0_off2 L 0 + 1 * (y 0).val = k0_off1 L 0 + 1 * (y 0).val
    rw [k0_off1_eq, k0_off2_eq]; rfl
  | ⟨1, _⟩ =>
    apply Fin.ext
    show k0_off2 L 1 + 1 * (y 1).val = (y 1).val
    rw [k0_off2_eq]
    show 0 + 1 * (y 1).val = (y 1).val
    omega

theorem pts_idxBlk (f : Buf (Elt F) (idxLoc d)) :
    ((idxBlk L).view.loc (V d (cV L) (jV L)) ↦[(idxBlk L).view.set]{fullShare} f : sProp (𝕄 F)) = idxLoc d ↦[idxSet (taskNo L)]{fullShare} f := by
  rw [set_idxBlk]
theorem pts_outBlk (f : Buf (Elt F) (rowsLoc d)) :
    ((outBlk L).view.loc (V d (cV L) (jV L)) ↦[(outBlk L).view.set]{fullShare} f : sProp (𝕄 F)) = rowsLoc d ↦[outSet (taskNo L)]{fullShare} f := by
  rw [set_outBlk]
theorem pts_tab (q : PosShare TreeShare) (f : Buf (Elt F) (tabLoc d)) :
    ((tabV).view.loc (V d (cV L) (jV L)) ↦{q} f : sProp (𝕄 F)) = tabLoc d ↦{q} f := rfl
theorem pts_list (f : Buf (Elt F) ((V d (cV L) (jV L)).loc cc0_scratch0)) :
    ((listV).view.loc (V d (cV L) (jV L)) ↦{fullShare} f : sProp (𝕄 F)) = (V d (cV L) (jV L)).loc cc0_scratch0 ↦{fullShare} f := rfl
theorem pts_buf (f : Buf (Elt F) ((V d (cV L) (jV L)).loc cc0_scratch1)) :
    ((bufV).view.loc (V d (cV L) (jV L)) ↦{fullShare} f : sProp (𝕄 F)) = (V d (cV L) (jV L)).loc cc0_scratch1 ↦{fullShare} f := rfl

/-! ## The task's semaphores and scratch buffers -/

abbrev gCell (d : Dev nD) (c : Fin τ.nSC) (i : Fin τ.nSub) : GSem nD τ sig := (V d c i, .dma cc0_scratch2.sem)
abbrev aCell (d : Dev nD) (c : Fin τ.nSC) (i : Fin τ.nSub) : GSem nD τ sig := (V d c i, .dma cc0_scoped0.sem)
abbrev bCell (d : Dev nD) (c : Fin τ.nSC) (i : Fin τ.nSub) : GSem nD τ sig := (V d c i, .dma cc0_scoped1.sem)

theorem ownSems0_task :
    (ownSems0 (V d (cV L) (jV L)) : sProp (𝕄 F))
      = iprop(semVal (gCell d (cV L) (jV L)) 0 ∗ semVal (aCell d (cV L) (jV L)) 0 ∗ semVal (bCell d (cV L) (jV L)) 0
          ∗ bigSep ((((ownCells (V d (cV L) (jV L))).erase (gCell d (cV L) (jV L))).erase (aCell d (cV L) (jV L))).erase (bCell d (cV L) (jV L))) fun g => semVal g 0) := by
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  have mem : ∀ {a : DmaSem sig}, (SemLoc.dma a : SemLoc sig).isScoped .scVector = true → ((V d (cV L) (jV L), SemLoc.dma a) : GSem nD τ sig) ∈ ownCells (V d (cV L) (jV L)) :=
    fun h => mem_ownCells.mpr ⟨rfl, h⟩
  unfold SparseCore.Cfg.ownSems0
  rw [SparseCore.bigSep_erase' (mem (a := cc0_scratch2.sem) (by decide)),
    SparseCore.bigSep_erase' (Finset.mem_erase.mpr ⟨ne (a := cc0_scoped0.sem) (by decide), mem (by decide)⟩),
    SparseCore.bigSep_erase' (Finset.mem_erase.mpr ⟨ne (a := cc0_scoped1.sem) (by decide), Finset.mem_erase.mpr ⟨ne (by decide), mem (by decide)⟩⟩)]

theorem ownBufs_task :
    (ownBufs (V d (cV L) (jV L)) : sProp (𝕄 F))
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

variable [FloatOps F] (q : PosShare TreeShare) (fi : S102400.Idx → BitVec 32) (ft : S100000x16.Idx → F .f32) (fo : S102400x16.Idx → F .f32)

/-- The task's list of positions: its block of the padded positions. -/
def listOf (L : grid0.Coords) (fi : S102400.Idx → BitVec 32) : S3200.Idx → BitVec 32 := fun x => fi ((idxBlk L).view.emb x)

/-- The block written out holds, within the block, the rows picked by the padded positions. -/
theorem block_written : ∀ x ∈ (outBlk L).view.set,
    ((outBlk L).view.write (Elt F) fo ((bufV).view.read (Elt F) (picked ft (listOf L fi))) Finset.univ : S102400x16.Idx → F .f32) x = picked ft fi x := by
  intro x hx
  obtain ⟨y, -, rfl⟩ := Finset.mem_map.mp hx
  refine (View.write_emb_of_mem _ _ (Finset.mem_univ y)).trans ?_
  refine Eq.trans ?_ (congrArg (picked ft fi) (outBlk_emb L y)).symm
  show ft (ix2 (rowNo (fi ((idxBlk L).view.emb (ix1 (y 0))))) (y 1)) = ft (ix2 (rowNo (fi (ix1 _))) _)
  congr 1; congr 2; congr 1
  exact eq_ix1 _

/-- What task `w` takes: its block of the padded positions, its share of the table, its block of the gathered rows. -/
def taskPts (d : Dev nD) (w : Fin 32) (fi : S102400.Idx → BitVec 32) (ft : S100000x16.Idx → F .f32) (fo : S102400x16.Idx → F .f32) : sProp (𝕄 F) :=
  iprop((idxLoc d ↦[idxSet w]{fullShare} fi) ∗ (tabLoc d ↦{pieceOf fullShare 32 (by omega) w} ft) ∗ (rowsLoc d ↦[outSet w]{fullShare} fo))

instance taskPts_storable (w : Fin 32) : BI.Storable (upEmb : UEmb _ (𝕄 F)) (taskPts d w fi ft fo) := by
  unfold taskPts; infer_instance

set_option maxHeartbeats 1000000 in
/-- The task from its pieces: it leaves its block of the gathered rows at the rows its positions pick. -/
theorem tile_body (hF : (K (F := F)).Facts) (hin : ∀ j, (fi j).toNat < 100000) (O : CellTallies nD τ sig (HIx 1)) (W : Waits sig (HIx 1)) (hO : ∀ g, O g none = 0) :
    iprop(levAts (K (F := F)).L (K (F := F)).lev ∗ emp ∗ taskPts d (taskNo L) fi ft fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel (F := F) L tabV (Memref.isWhole_whole _) idxV (Memref.isWhole_whole _) outV (Memref.isWhole_whole _)
            listV (Memref.isWhole_whole _) bufV (Memref.isWhole_whole _) cc0_scratch2 cc0_scoped0 cc0_scoped1)
          fun _ => iprop(taskPts d (taskNo L) fi ft (picked ft fi)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, (K (F := F)).scopedBufs_V hF d (cV L) (jV L), SparseCore.Cfg.scopedSems0_V (Val := Elt F) d (cV L) (jV L), ownSems0_task, ownBufs_task]
  unfold taskPts body
  generalize hp : issueFrom L 25 0 rfl (waitFrom L 25 0 rfl (writeOut (F := F) L)) = prog
  iintro ⟨#Hlv, -, ⟨Hi, Ht, Ho⟩, ⟨⟨%fs, Hs⟩, ⟨%fr, Hr⟩, Hbufs⟩, ⟨HsG, HsA, HsB, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxBlk (F := F) d L _).symm) $$ Hi
  ihave Ho' := (Entails.of_eq (pts_outBlk (F := F) d L _).symm) $$ Ho
  ihave Ht' := (Entails.of_eq (pts_tab (F := F) d L _ _).symm) $$ Ht
  ihave Hs' := (Entails.of_eq (pts_list (F := F) d L _).symm) $$ Hs
  ihave Hr' := (Entails.of_eq (pts_buf (F := F) d L _).symm) $$ Hr
  sl_exec
  subst hp
  have hl : View.write (Elt F) (listV).view fs (tile_body.sl.dma0 L fi) Finset.univ = listOf L fi := by
    rw [View.write_whole_univ]; rfl
  rw [hl]
  iapply (gather_all (F := F) d L (pieceOf fullShare 32 (by omega) (taskNo L)) fr (listOf L fi) ft (fun j => hin _) O
    (insert (SemLoc.dma cc0_scoped0.sem, default) W) (writeOut L)) $$ [Hr' Hs' Ht' HsG HO]
  · isplitl [Hr' Hs' Ht']
    · isplitl [Hr']; · iexact Hr'
      isplitl [Hs']; · iexact Hs'
      iexact Ht'
    isplitl [HsG]; · iexact HsG
    isplitl [HO]; · iexact HO
    imodintro
    iapply (Transfers.MayWaits.elim (SemLoc.dma cc0_scratch2.sem)) $$ Hmw
  iintro ⟨⟨Hr', Hs', Ht'⟩, HsG, %W₁, %hW₁, HO⟩
  unfold writeOut
  sl_exec
  sl_step
  isplitl [Hi' Ht' Ho']
  · isplitl [Hi']; · iapply (Entails.of_eq (pts_idxBlk (F := F) d L _)); iexact Hi'
    isplitl [Ht']; · iexact Ht'
    have hpay : tile_body.sl.dma0_1 (F := F) L fi ft = (bufV).view.read (Elt F) (picked ft (listOf L fi)) := rfl
    have hw : ∀ x ∈ (outBlk L).view.set,
        ((outBlk L).view.writes (Elt F) fo [⟨Rect.whole S3200x16, tile_body.sl.dma0_1 (F := F) L fi ft⟩] : S102400x16.Idx → F .f32) x = picked ft fi x := by
      rw [hpay, ← View.write_univ_eq_writes_whole]; exact block_written (F := F) L fi ft fo
    iapply (Entails.of_eq ((pointsTo_congr hw).trans (pts_outBlk (F := F) d L _))); iexact Ho'
  isplitl [Hs' Hr' Hbufs]
  · isplitl [Hs']; · iexists _; iexact Hs'
    isplitl [Hr']; · iexists _; iexact Hr'
    iexact Hbufs
  isplitl [HsG HsA HsB Hsems]
  · isplitl [HsG]; · iexact HsG
    isplitl [HsA]; · iexact HsA
    isplitl [HsB]; · iexact HsB
    iexact Hsems
  iexists _; isplitr
  swap; · iexact HO
  ipureintro; intro p hp
  rcases Finset.mem_insert.mp hp with hp | hp; · exact .inr (hp ▸ rfl)
  rcases hW₁ p hp with hp | hp
  · rcases Finset.mem_insert.mp hp with hp | hp; · exact .inr (hp ▸ rfl)
    exact .inl hp
  · exact .inr hp

end Tile

end Cert.Proof.Run

end
-- ==== Proof.Call.lean ====
/-
  The SparseCore call: what the TensorCore hands it (the padded positions, the table, the array of gathered rows) goes to the two
  SparseCores, sixteen tasks each, as the thirty-two tasks' pieces; they come back with the gathered rows at the rows that the padded
  positions pick.
-/
module

public import proofs.«01_k».proof.Proof.Tile

@[expose] public section

noncomputable section

namespace Cert.Proof.Run

open Cert.KernelIdeal Cert.KernelIdeal.Gen

open Idealize.ShloMosaic Idealize.ShloMosaic.ValueIdx
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "tabV" => (Memref.whole Cert.KernelIdeal.main_arg2_scv : Memref Cert.KernelIdeal.sig Kind.scVector Space.hbm Cert.KernelIdeal.S100000x16 EltTy.f32)
local notation "idxV" => (Memref.whole Cert.KernelIdeal.main_v0_scv : Memref Cert.KernelIdeal.sig Kind.scVector Space.hbm Cert.KernelIdeal.S102400 EltTy.i32)
local notation "outV" => (Memref.whole Cert.KernelIdeal.main_v1_scv : Memref Cert.KernelIdeal.sig Kind.scVector Space.hbm Cert.KernelIdeal.S102400x16 EltTy.f32)
local notation "listV" => (Memref.whole Cert.KernelIdeal.cc0_scratch0 : Memref Cert.KernelIdeal.sig Kind.scVector Space.vmem Cert.KernelIdeal.S3200 EltTy.i32)
local notation "bufV" => (Memref.whole Cert.KernelIdeal.cc0_scratch1 : Memref Cert.KernelIdeal.sig Kind.scVector Space.vmem Cert.KernelIdeal.S3200x16 EltTy.f32)

/-! ## The arrays cut into the tasks' pieces -/

/-- Task `i` of SparseCore `c`. -/
def pairNo (c : Fin 2) (i : Fin 16) : Fin 32 := ⟨16 * c.val + i.val, by omega⟩

section Split

variable (d : Dev nD) (fi : S102400.Idx → BitVec 32) (ft : S100000x16.Idx → F .f32) (fo : S102400x16.Idx → F .f32)

/-- What the call takes and brings back: the padded positions, the table, the gathered rows. -/
def callPts : sProp (𝕄 F) := iprop((idxLoc d ↦{fullShare} fi) ∗ (tabLoc d ↦{fullShare} ft) ∗ (rowsLoc d ↦{fullShare} fo))

/-- A points-to of a whole buffer cut into thirty-two shares. -/
theorem shares32 (ℓ : Loc nD τ sig) (f : Buf (Elt F) ℓ) : (ℓ ↦{fullShare} f : sProp (𝕄 F)) = bigSep Finset.univ fun w : Fin 32 => ℓ ↦{pieceOf fullShare 32 (by omega) w} f :=
  pointsTo_piecesOf Finset.univ f (by omega) fullShare

theorem callPts_tasks : callPts d fi ft fo = bigSep Finset.univ fun c : Fin 2 => bigSep Finset.univ fun i : Fin 16 => taskPts d (pairNo c i) fi ft fo := by
  have hi : (idxLoc d ↦{fullShare} fi : sProp (𝕄 F)) = bigSep Finset.univ fun w : Fin 32 => idxLoc d ↦[idxSet w]{fullShare} fi := by
    rw [← pointsTo_biUnion Finset.univ (ℓ := idxLoc d) idxSet fun i _ j _ h => Rect.part_disjoint idiv h]
    exact congrArg (fun I => (idxLoc d ↦[I]{fullShare} fi : sProp (𝕄 F))) (Rect.biUnion_part idiv).symm
  have ho : (rowsLoc d ↦{fullShare} fo : sProp (𝕄 F)) = bigSep Finset.univ fun w : Fin 32 => rowsLoc d ↦[outSet w]{fullShare} fo := by
    rw [← pointsTo_biUnion Finset.univ (ℓ := rowsLoc d) outSet fun i _ j _ h => Rect.part_disjoint odiv h]
    exact congrArg (fun I => (rowsLoc d ↦[I]{fullShare} fo : sProp (𝕄 F))) (Rect.biUnion_part odiv).symm
  have ht : (tabLoc d ↦{fullShare} ft : sProp (𝕄 F)) = bigSep Finset.univ fun w : Fin 32 => tabLoc d ↦{pieceOf fullShare 32 (by omega) w} ft :=
    shares32 (tabLoc d) ft
  have h : callPts d fi ft fo = bigSep Finset.univ fun w : Fin 32 => taskPts d w fi ft fo := by
    unfold callPts taskPts
    rw [hi, ho, ht, bigSep_sep', bigSep_sep']
  rw [h, bigSep_univ_equiv (finProdFinEquiv : Fin 2 × Fin 16 ≃ Fin 32) (fun w => taskPts d w fi ft fo), bigSep_univ_prod]
  refine bigSep_congr fun c _ => bigSep_congr fun i _ => ?_
  congr 1
  exact Fin.ext (Nat.add_comm _ _)

end Split

/-! ## What the handshakes carry -/

variable (fi : Dev nD → S102400.Idx → BitVec 32) (ft : Dev nD → S100000x16.Idx → F .f32) (fo : Dev nD → S102400x16.Idx → F .f32)

/-- What SparseCore `c` takes: its tasks' pieces. -/
abbrev corePts (d : Dev nD) (c : Fin 2) (fi : S102400.Idx → BitVec 32) (ft : S100000x16.Idx → F .f32) (fo : S102400x16.Idx → F .f32) : sProp (𝕄 F) :=
  bigSep Finset.univ fun i : Fin 16 => taskPts d (pairNo c i) fi ft fo

def P : (K (F := F)).Pay (nD := nD) (Val := Elt F) (Name := ℕ) (U := UU) where
  st := fun q d c => match q with | 0 => corePts d (Fin.cast nCore_zero c) (fi d) (ft d) (fo d)
  dn := fun q d c => match q with | 0 => corePts d (Fin.cast nCore_zero c) (fi d) (ft d) (picked (ft d) (fi d))
  go := fun q d c i => match q with | 0 => taskPts d (pairNo (Fin.cast nCore_zero c) (Fin.cast nSub_zero i)) (fi d) (ft d) (fo d)
  td := fun q d c i => match q with | 0 => taskPts d (pairNo (Fin.cast nCore_zero c) (Fin.cast nSub_zero i)) (fi d) (ft d) (picked (ft d) (fi d))
  x := fun _ _ => iprop(emp)

instance P_storable : (P (F := F) fi ft fo).IsStorable where
  st q d c := match q with | 0 => (inferInstance : BI.Storable (upEmb : UEmb _ (𝕄 F)) (corePts d (Fin.cast nCore_zero c) (fi d) (ft d) (fo d)))
  dn q d c := match q with | 0 => (inferInstance : BI.Storable (upEmb : UEmb _ (𝕄 F)) (corePts d (Fin.cast nCore_zero c) (fi d) (ft d) (picked (ft d) (fi d))))
  go q d c i := match q with
    | 0 => (inferInstance : BI.Storable (upEmb : UEmb _ (𝕄 F)) (taskPts d (pairNo (Fin.cast nCore_zero c) (Fin.cast nSub_zero i)) (fi d) (ft d) (fo d)))
  td q d c i := match q with
    | 0 => (inferInstance : BI.Storable (upEmb : UEmb _ (𝕄 F)) (taskPts d (pairNo (Fin.cast nCore_zero c) (Fin.cast nSub_zero i)) (fi d) (ft d) (picked (ft d) (fi d))))

theorem vecSplit : (K (F := F)).VecSplit' (P fi ft fo) 0 := by
  intro d c
  have hs : ∀ Φ : Fin 16 → sProp (𝕄 F), (bigSep Finset.univ fun i : Fin ((K (F := F)).nSub 0) => Φ (Fin.cast nSub_zero i)) = bigSep Finset.univ Φ :=
    fun Φ => bigSep_congr fun _ _ => congrArg Φ (Fin.ext rfl)
  show corePts d (Fin.cast nCore_zero c) (fi d) (ft d) (fo d) ⊢ |={Set.univ}=> iprop(
      (bigSep Finset.univ fun i : Fin ((K (F := F)).nSub 0) => taskPts d (pairNo (Fin.cast nCore_zero c) (Fin.cast nSub_zero i)) (fi d) (ft d) (fo d))
      ∗ ((bigSep Finset.univ fun i : Fin ((K (F := F)).nSub 0) =>
          taskPts d (pairNo (Fin.cast nCore_zero c) (Fin.cast nSub_zero i)) (fi d) (ft d) (picked (ft d) (fi d)))
          -∗ corePts d (Fin.cast nCore_zero c) (fi d) (ft d) (picked (ft d) (fi d))))
  rw [hs (fun i => taskPts d (pairNo (Fin.cast nCore_zero c) i) (fi d) (ft d) (fo d)),
    hs (fun i => taskPts d (pairNo (Fin.cast nCore_zero c) i) (fi d) (ft d) (picked (ft d) (fi d)))]
  iintro H; imodintro
  isplitl [H]; · iexact H
  iintro H; iexact H

/-- The call's operands are what the two SparseCores take, -/
theorem st_eq (d : Dev nD) : (bigSep Finset.univ fun c : Fin ((K (F := F)).nCore 0) => (P fi ft fo).st 0 d c) = callPts d (fi d) (ft d) (fo d) :=
  (callPts_tasks d (fi d) (ft d) (fo d)).symm
/-- and what they bring back the operands with the rows gathered. -/
theorem dn_eq (d : Dev nD) : (bigSep Finset.univ fun c : Fin ((K (F := F)).nCore 0) => (P fi ft fo).dn 0 d c) = callPts d (fi d) (ft d) (picked (ft d) (fi d)) :=
  (callPts_tasks d (fi d) (ft d) (picked (ft d) (fi d))).symm

/-! ## The task's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (F := F) (coordsV c s)
          tabV (Memref.isWhole_whole _) idxV (Memref.isWhole_whole _) outV (Memref.isWhole_whole _)
          listV (Memref.isWhole_whole _) bufV (Memref.isWhole_whole _) cc0_scratch2 cc0_scoped0 cc0_scoped1) ⟨⟩ c s := rfl

omit [FloatOps F] in
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hin : ∀ d j, (fi d j).toNat < 100000) : (K (F := F)).TileObl (D (F := F)) 𝒱 (P fi ft fo) v₀ 0 := by
  intro d c i O W hO _ _
  simp only [show (P fi ft fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fi d) (ft d) (fo d) facts (hin d) O W hO).trans (wp_mono frame _ _ fun _ => obl_post)

end Cert.Proof.Run

end
-- ==== Proof.Region.lean ====
/-
  The TensorCore's pallas_call: seven blocks of 16384 rows, the last one overhanging the arrays. Each point's body leaves in the
  result's staging buffer `k1_pay1` of the blocks fetched; on the rows past the arrays' end those blocks hold words nothing names, so
  what the body leaves is stated with those words existentially.
-/
module

public import proofs.«01_k».proof.Proof.Call
public import Idealize.ShloMosaic.Lib.Pipeline.DatRel
public import Idealize.ShloMosaic.Lib.Pipeline.FrameBody
public import Idealize.ShloMosaic.Lib.Pipeline.Value
public import Idealize.ShloMosaic.Lib.Pipeline.RegionArrays

@[expose] public section

noncomputable section

namespace Cert.Proof.Run

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)

variable {F : FTy → Type} [FloatOps F] [∀ e, Nonempty (Elt F e)]

/-! ## The body, run once -/

theorem zero2 : (![0, 0] : Fin 2 → ℕ) = fun _ => 0 := funext fun a => by fin_cases a <;> rfl

/-- One store over a whole two-axis shape, read back. -/
theorem read_stored {κ : Kind} {sp : Space} {S : Shape} {e : EltTy} (v : View sig κ sp S e) (f : v.ty.Contents (Elt F)) {off : Fin S.rank → ℕ}
    (h0 : off = fun _ => 0) (inb : ∀ a, off a + S.size a ≤ S.size a) (w : S.Idx → Elt F e) :
    v.read (Elt F) (v.writes (Elt F) f [(⟨Rect.unit (s := S) off S.size inb, w⟩ : View.Piece (Elt F) S e)]) = w := by
  rw [View.read_writes_eq_canon _ _ _ (fun y => ⟨_, List.mem_singleton_self _, View.mem_set_unit_zero h0 inb y⟩), View.canon_unit_zero h0]

theorem proj_body (c : Dev nD) (i : grid1.Coords)
    (a1 : Memref sig .tc .vmem S16384x128 .f32) (h1 : a1.IsWhole) (a2 : Memref sig .tc .vmem S2048x128 .f32) (h2 : a2.IsWhole)
    (a3 : Memref sig .tc .vmem S128x1024 .f32) (h3 : a3.IsWhole) (a4 : Memref sig .tc .vmem S128x128 .f32) (h4 : a4.IsWhole)
    (a5 : Memref sig .tc .vmem S1x128 .f32) (h5 : a5.IsWhole) (a6 : Memref sig .tc .vmem S16384x128 .f32) (h6 : a6.IsWhole)
    (X0 : S16384x128.Idx → F .f32) (X1 : S2048x128.Idx → F .f32) (X2 : S128x1024.Idx → F .f32) (X3 : S128x128.Idx → F .f32)
    (X4 : S1x128.Idx → F .f32) (X5 : S16384x128.Idx → F .f32) (Q : PUnit → sProp (𝕄 F)) :
    iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
        ∗ (iprop(owns (c : Thread nD τ) a1 fullShare X0 ∗ owns (c : Thread nD τ) a2 fullShare X1 ∗ owns (c : Thread nD τ) a3 fullShare X2
            ∗ owns (c : Thread nD τ) a4 fullShare X3 ∗ owns (c : Thread nD τ) a5 fullShare X4
            ∗ owns (c : Thread nD τ) a6 fullShare (k1_pay1 X1 X2 X0 X3 X4)) -∗ Q ⟨⟩))
      ⊢ wp frame (wpE (defs₀ (F := F)) 𝒱₀ c none) Set.univ (cc1__project_body i a1 h1 a2 h2 a3 h3 a4 h4 a5 h5 a6 h6) Q := by
  simp only [cc1__project_body_eq_skeleton]; unfold cc1__project_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr; swap; · iexact H6
  ipureintro
  rw [read_stored _ _ zero2]
  simp only [View.readAt_eq_ld]
  rw [View.ld_unit_zero (S := S2048x128) zero2, View.ld_unit_zero (S := S128x1024) zero2, View.ld_unit_zero (S := S16384x128) zero2,
    View.ld_unit_zero (S := S128x128) zero2, View.ld_unit_zero (S := S1x128) zero2]

/-! ## The proof data -/

variable (n : ℕ) (V : (c : Dev nD) → (b : Ref sig .tc) → Buf (Elt F) ((c : Thread nD τ).loc b))

/-- What window `w` fetches at point `t`: its array's block, the part of it inside the array. -/
abbrev blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same, filled out to the staging buffer's size with `f`. -/
abbrev staged (c : Dev nD) (w : Fin cfg1.W) (t : Fin cfg1.N) (f : (cfg1.win w).block.Idx → Elt F (cfg1.win w).elt) :
    (cfg1.win w).block.Idx → Elt F (cfg1.win w).elt :=
  (cfg1.win w).fill (cfg1.grid.coords t) f (blk V c w t)

/-- The proof data of the pallas_call on device `c`: the arrays as it finds them, the input windows' staging buffers kept, nothing owed,
    the recorded waits those at level `n` and below. -/
def dat (c : Dev nD) : Dat τ (Elt F) (HIx 1) ℕ UU ℕ cfg1 c where
  A w := V c (Pipeline.arrRef spec1 w)
  after w t := match w with
    | ⟨0, _⟩ => staged V c 0 t fun _ => Classical.arbitrary _
    | ⟨1, _⟩ => staged V c 1 t fun _ => Classical.arbitrary _
    | ⟨2, _⟩ => staged V c 2 t fun _ => Classical.arbitrary _
    | ⟨3, _⟩ => staged V c 3 t fun _ => Classical.arbitrary _
    | ⟨4, _⟩ => staged V c 4 t fun _ => Classical.arbitrary _
    | ⟨5, _⟩ => Dat.unnamed 5 t
  Φ _ := iprop(emp)
  q _ := fullShare
  owed _ := 0
  recorded _ := {p | (K (F := F)).lev ((c : Thread nD τ), p.1) p.2 ≤ n}

/-- The result's window is the one held to a predicate. -/
def marked : Fin 6 → Bool
  | ⟨5, _⟩ => true
  | ⟨0, _⟩ => false | ⟨1, _⟩ => false | ⟨2, _⟩ => false | ⟨3, _⟩ => false | ⟨4, _⟩ => false
  | ⟨_ + 6, h⟩ => absurd h (Nat.not_lt.2 (Nat.le_add_left _ _))

/-- What the body leaves in the result's staging buffer at point `t`: its payload of the blocks fetched, whatever filled the first two
    past their arrays' end. -/
def Left (c : Dev nD) : (w : Fin cfg1.W) → Fin cfg1.N → ((cfg1.win w).block.Idx → Elt F (cfg1.win w).elt) → Prop
  | ⟨5, _⟩, t, X => ∃ d0 d1, X = k1_pay1 (staged V c 1 t d1) (blk V c 2 t) (staged V c 0 t d0) (blk V c 3 t) (blk V c 4 t)
  | _, _, _ => True

abbrev rdats (_ : Fin 1) (c : Dev nD) : RDat τ (Elt F) (HIx 1) ℕ UU ℕ cfg1 c := (dat n V c).toRRel marked (Left V c)

theorem before_0 (c : Dev nD) (t : Fin cfg1.N) (d) : (dat n V c).before 0 t d = staged V c 0 t d := Dat.before_fetched _ 0 t (fetch1_0 t) d
theorem before_1 (c : Dev nD) (t : Fin cfg1.N) (d) : (dat n V c).before 1 t d = staged V c 1 t d := Dat.before_fetched _ 1 t (fetch1_1 t) d
theorem before_2 (c : Dev nD) (t : Fin cfg1.N) (d) : (dat n V c).before 2 t d = blk V c 2 t :=
  Dat.before_in_eq_fetched _ 2 rfl (fun _ => rfl) (fun _ _ _ => rfl) (fun _ => rfl) t d
theorem before_3 (c : Dev nD) (t : Fin cfg1.N) (d) : (dat n V c).before 3 t d = blk V c 3 t :=
  Dat.before_in_eq_fetched _ 3 rfl (fun _ => rfl) (fun _ _ _ => rfl) (fun _ => rfl) t d
theorem before_4 (c : Dev nD) (t : Fin cfg1.N) (d) : (dat n V c).before 4 t d = blk V c 4 t :=
  Dat.before_in_eq_fetched _ 4 rfl (fun _ => rfl) (fun _ _ _ => rfl) (fun _ => rfl) t d

theorem defs₀_row (t : Fin cfg1.N) : defs₀ (F := F) .tc cfg1.body (cfg1.bodyArgs t (cfg1.slots t)) = bodyAt1 t := rfl

theorem kept_0 (c : Dev nD) (t : Fin cfg1.N) (d) : (cfg1.win 0).fill (cfg1.grid.coords t) d ((cfg1.win 0).cut (cfg1.grid.coords t) ((dat n V c).after 0 t))
    = staged V c 0 t d := by
  dsimp only [dat]; unfold staged; rw [Pipeline.Window.cut_fill]
theorem kept_1 (c : Dev nD) (t : Fin cfg1.N) (d) : (cfg1.win 1).fill (cfg1.grid.coords t) d ((cfg1.win 1).cut (cfg1.grid.coords t) ((dat n V c).after 1 t))
    = staged V c 1 t d := by
  dsimp only [dat]; unfold staged; rw [Pipeline.Window.cut_fill]

theorem body_obligation (c : Dev nD) : Pipeline.BodyObligationRel (dat n V c) (defs₀ (F := F)) 𝒱₀ none Set.univ marked (Left V c) := fun t => by
  rw [bigSep_W1, bigSep_W1, defs₀_row]
  dsimp only [marked]
  rw [show (dat n V c).Φ t.succ = (dat n V c).Φ t.castSucc from rfl,
    show (dat n V c).owesAt none t.succ = (dat n V c).owesAt none t.castSucc from rfl]
  iintro ⟨HΦ, Ho, ⟨%d0, H0⟩, ⟨%d1, H1⟩, ⟨%d2, H2⟩, ⟨%d3, H3⟩, ⟨%d4, H4⟩, ⟨%Y, %hY, H5⟩⟩
  rw [before_0 n V c t d0, before_1 n V c t d1, before_2 n V c t d2, before_3 n V c t d3, before_4 n V c t d4]
  iapply (proj_body c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5))
    (staged V c 0 t d0) (staged V c 1 t d1) (blk V c 2 t) (blk V c 3 t) (blk V c 4 t) Y _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists d0; iapply (Entails.of_eq (congrArg (owns (c : Thread nD τ) (stage1_0 (cfg1.slots t 0)) fullShare) (kept_0 n V c t d0).symm)); iexact H0
  isplitl [H1]
  · iexists d1; iapply (Entails.of_eq (congrArg (owns (c : Thread nD τ) (stage1_1 (cfg1.slots t 1)) fullShare) (kept_1 n V c t d1).symm)); iexact H1
  isplitl [H2]; · iexact H2
  isplitl [H3]; · iexact H3
  isplitl [H4]; · iexact H4
  iexists _; isplitr; swap; · iexact H5
  ipureintro; exact ⟨d0, d1, rfl⟩

/-! ## The region -/

/-- No prefetched table. -/
abbrev adm : (p : Fin 1) → (pcfgs (F := F) p).Adm := fun p => (cfgs p).toPCfg_adm

/-- What the region leaves: its arrays at contents they may hold after the last write-back, the other buffers as it found them. -/
abbrev regionPost (c : Dev nD) : sProp (𝕄 F) :=
  iprop((rdats n V 0 c).arraysAt cfg1.N ∗ Pipeline.unscopedRest spec1 c (V c))

/-- The TensorCore owes nothing, and the waits it has recorded are at level `n` and below. -/
abbrev idleAt (c : Dev nD) : sProp (𝕄 F) := iprop(∃ W, ⌜(K (F := F)).WBelow (c : Thread nD τ) W n⌝ ∗ owes (c : Thread nD τ) (0 : CellTallies nD τ sig (HIx 1)) W)

set_option backward.isDefEq.respectTransparency.types false in
/-- The region: entered from the buffers at `V` and nothing owed. -/
def region : RDat.RegionSeg (pcfgs (F := F)) adm (rdats n V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation n V c).toRRel
  hwaits := RDat.hwaits_of_owed_zero _ _ _ _ (K (F := F)).L (K (F := F)).lev 0 fun _ _ => rfl
  pre c := iprop(unscopedBufs c (V c) ∗ idleAt n c)
  post c := iprop(regionPost n V c ∗ idleAt n c)
  X _ := iprop(emp)
  Y _ := iprop(emp)
  Z c := Pipeline.unscopedRest spec1 c (V c)
  hentry c := by
    have hsplit := RDat.arrays_of_unscopedBufs (pcfgs (F := F)) adm (rdats n V) (p := 0) launch1.win launch1.arr_whole c
      ((dat n V c).share_full fun _ => rfl) (V c) (fun _ => rfl)
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hr
  hin c := by rw [scopedRest1_eq]; iintro -; iempintro
  hout c := by
    rw [scopedRest1_eq, Pipeline.ownSems0_none]; iintro -
    isplitr; · iempintro
    isplitr <;> iempintro
  hexit c := by
    iintro ⟨Ha, ⟨%W, %hW, HO⟩, -, HZ⟩
    imodintro
    isplitl [Ha HZ]
    · isplitl [Ha] <;> iassumption
    iexists W; isplitr; swap; · iexact HO
    ipureintro
    intro p hp
    rcases hW hp with h | ⟨w, s, h⟩
    · exact h
    · subst h; exact Nat.zero_le _

end Cert.Proof.Run

end
-- ==== Proof.Main.lean ====
/-
  @main on the TensorCore, and the launch: the host operations that pad the positions, the SparseCore call, the host operations that build
  the projection's operands, the pallas_call, and what the memory holds at the end.
-/
module

public import proofs.«01_k».proof.Proof.Region
public import Idealize.ShloMosaic.Lib.Pipeline.FrameTail

@[expose] public section

noncomputable section

namespace Cert.Proof.Run

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat ucRefs)

variable {F : FTy → Type} [FloatOps F] [∀ e, Nonempty (Elt F e)]

/-! ## The host operations, and the buffers after them -/

/-- The operations before the SparseCore call: the positions padded with zeros. -/
abbrev padOps : List (HloOp τ sig (Elt F)) :=
  [ StableHlo.nullary main_c (constantI S_ 32 0#32),
    StableHlo.TRef.unary (.of main_c : StableHlo.TRef sig ⟨S_, .i32⟩) main_call0.v0 id,
    StableHlo.TRef.binary (.of main_arg1 : StableHlo.TRef sig ⟨S100000, .i32⟩) main_call0.v0 main_call0.v1 (fun x v => pad S102400 ![0] ![2400] ![0] x v pads_S100000_S102400_024000 h_S_) ]

/-- The operations between the two calls: the gathered rows packed eight to a row, the first 128 columns of `W` transposed, the last
    sixteen transposed and laid out as eight diagonal blocks, the bias as a row. -/
abbrev midOps : List (HloOp τ sig (Elt F)) :=
  [ StableHlo.reshape main_v1 main_v2 (rfl : (.f32 : EltTy) = .f32) shapeCasts_S102400x16_S12800x128,
    StableHlo.unary main_arg3 main_v3 ((extractStridedSlice S128x128 ![0, 0] · slices_S128x144_S128x128_0_0) : (⟨S128x144, .f32⟩ : BufTy).Contents (Elt F) → (⟨S128x128, .f32⟩ : BufTy).Contents (Elt F)),
    StableHlo.unary main_v3 main_v4 ((transpose S128x128 [1, 0] · transposes_S128x128_S128x128_1_0) : (⟨S128x128, .f32⟩ : BufTy).Contents (Elt F) → (⟨S128x128, .f32⟩ : BufTy).Contents (Elt F)),
    StableHlo.unary main_arg3 main_v5 ((extractStridedSlice S128x16 ![0, 128] · slices_S128x144_S128x16_0_128) : (⟨S128x144, .f32⟩ : BufTy).Contents (Elt F) → (⟨S128x16, .f32⟩ : BufTy).Contents (Elt F)),
    StableHlo.unary main_v5 main_v6 ((transpose S16x128 [1, 0] · transposes_S128x16_S16x128_1_0) : (⟨S128x16, .f32⟩ : BufTy).Contents (Elt F) → (⟨S16x128, .f32⟩ : BufTy).Contents (Elt F)),
    StableHlo.nullary main_v7 (iotaInDim S8x8 32 0),
    StableHlo.nullary main_v8 (iotaInDim S8x8 32 1),
    StableHlo.nullary main_c_0 (constantI S_ 32 0#32),
    StableHlo.unary main_c_0 main_v9 (broadcastInDim S8x8 ![] bcast_S_S8x8 : (⟨S_, .i32⟩ : BufTy).Contents (Elt F) → (⟨S8x8, .i32⟩ : BufTy).Contents (Elt F)),
    StableHlo.binary main_v7 main_v9 main_v10 (addi : (⟨S8x8, .i32⟩ : BufTy).Contents (Elt F) → (⟨S8x8, .i32⟩ : BufTy).Contents (Elt F) → (⟨S8x8, .i32⟩ : BufTy).Contents (Elt F)),
    StableHlo.binary main_v10 main_v8 main_v11 (cmpi .eq : (⟨S8x8, .i32⟩ : BufTy).Contents (Elt F) → (⟨S8x8, .i32⟩ : BufTy).Contents (Elt F) → (⟨S8x8, .i1⟩ : BufTy).Contents (Elt F)),
    StableHlo.unary main_v11 main_v12 (uitofp .f32 : (⟨S8x8, .i1⟩ : BufTy).Contents (Elt F) → (⟨S8x8, .f32⟩ : BufTy).Contents (Elt F)),
    StableHlo.unary main_v12 main_v13 (broadcastInDim S8x1x8x1 ![0, 2] bcast_S8x8_S8x1x8x1_0_2 : (⟨S8x8, .f32⟩ : BufTy).Contents (Elt F) → (⟨S8x1x8x1, .f32⟩ : BufTy).Contents (Elt F)),
    StableHlo.unary main_v6 main_v14 (broadcastInDim S1x16x1x128 ![1, 3] bcast_S16x128_S1x16x1x128_1_3 : (⟨S16x128, .f32⟩ : BufTy).Contents (Elt F) → (⟨S1x16x1x128, .f32⟩ : BufTy).Contents (Elt F)),
    StableHlo.unary main_v13 main_v15 (broadcastInDim S8x16x8x128 ![0, 1, 2, 3] bcast_S8x1x8x1_S8x16x8x128_0_1_2_3 : (⟨S8x1x8x1, .f32⟩ : BufTy).Contents (Elt F) → (⟨S8x16x8x128, .f32⟩ : BufTy).Contents (Elt F)),
    StableHlo.unary main_v14 main_v16 (broadcastInDim S8x16x8x128 ![0, 1, 2, 3] bcast_S1x16x1x128_S8x16x8x128_0_1_2_3 : (⟨S1x16x1x128, .f32⟩ : BufTy).Contents (Elt F) → (⟨S8x16x8x128, .f32⟩ : BufTy).Contents (Elt F)),
    StableHlo.binary main_v15 main_v16 main_v17 (mulf : (⟨S8x16x8x128, .f32⟩ : BufTy).Contents (Elt F) → (⟨S8x16x8x128, .f32⟩ : BufTy).Contents (Elt F) → (⟨S8x16x8x128, .f32⟩ : BufTy).Contents (Elt F)),
    StableHlo.reshape main_v17 main_v18 (rfl : (.f32 : EltTy) = .f32) shapeCasts_S8x16x8x128_S128x1024,
    StableHlo.reshape main_arg4 main_v19 (rfl : (.f32 : EltTy) = .f32) shapeCasts_S128_S1x128 ]

/-- @main: the padding, the SparseCore call, the operands, the pallas_call. -/
theorem main_eq (d : Dev nD) : main (F := F) d
    = (StableHlo.seq padOps >>= fun _ => (K (F := F)).run d 0 >>= fun _ => StableHlo.seq midOps >>= fun _ =>
        SparseCore.liftProg (Prog.op (.customCall (Pipeline.entry 0) ()) fun _ => .ret ⟨⟩)) := by
  simp only [main, fn_pad.body, StableHlo.seq, Prog.bind_assoc, Prog.bind_op, Prog.bind_ret]
  rfl

variable (m : (ℓ : Loc nD τ sig) → Buf (Elt F) ℓ) (ρ : Dev nD → PrngReg)

/-- Device `d`'s buffers after the padding. -/
def V1 (d : Dev nD) : Valuation τ sig (Elt F) := StableHlo.after padOps (StableHlo.launchContents m d)

/-- The padded positions, the table, the rows' buffer: what the SparseCore call is handed. -/
abbrev padded (d : Dev nD) : S102400.Idx → BitVec 32 := V1 m d (Proc.devRef .tc main_v0)
abbrev table (d : Dev nD) : S100000x16.Idx → F .f32 := V1 m d (Proc.devRef .tc main_arg2)
abbrev rows₀ (d : Dev nD) : S102400x16.Idx → F .f32 := V1 m d (Proc.devRef .tc main_v1)

/-- After the SparseCore call: the rows gathered. -/
def V2 (d : Dev nD) : Valuation τ sig (Elt F) :=
  Function.update (V1 m d) (Proc.devRef .tc main_v1) (picked (table m d) (padded m d))

/-- As the pallas_call finds them. -/
def V3 (d : Dev nD) : Valuation τ sig (Elt F) := StableHlo.after midOps (V2 m d)

/-- What the SparseCore call's handshakes carry. -/
abbrev Pm := P (F := F) (padded m) (table m) (rows₀ m)

/-- The buffers the SparseCore call is handed, and the other unscoped ones. -/
abbrev callRefs : Finset (DevRef τ sig) := {Proc.devRef .tc main_v0, Proc.devRef .tc main_arg2, Proc.devRef .tc main_v1}

theorem callRefs_sub : callRefs ⊆ ucRefs τ sig := by
  intro b hb
  simp only [Finset.mem_insert, Finset.mem_singleton] at hb
  rcases hb with rfl | rfl | rfl <;> exact Pipeline.devRef_mem_ucRefs rfl

theorem held_callRefs (d : Dev nD) (W : Valuation τ sig (Elt F)) : (StableHlo.held (d : Thread nD τ) callRefs W : sProp (𝕄 F))
    = callPts d (W (Proc.devRef .tc main_v0)) (W (Proc.devRef .tc main_arg2)) (W (Proc.devRef .tc main_v1)) := by
  unfold StableHlo.held
  rw [SparseCore.bigSep_insert' (by decide), SparseCore.bigSep_insert' (by decide), bigSep_singleton]
  rfl

theorem held_V1 (d : Dev nD) : (StableHlo.held (d : Thread nD τ) (ucRefs τ sig) (V1 m d) : sProp (𝕄 F))
    = iprop(callPts d (padded m d) (table m d) (rows₀ m d) ∗ StableHlo.held (d : Thread nD τ) (ucRefs τ sig \ callRefs) (V1 m d)) := by
  rw [StableHlo.held_sub_split _ callRefs_sub, held_callRefs]

theorem held_V2 (d : Dev nD) : (StableHlo.held (d : Thread nD τ) (ucRefs τ sig) (V2 m d) : sProp (𝕄 F))
    = iprop(callPts d (padded m d) (table m d) (picked (table m d) (padded m d)) ∗ StableHlo.held (d : Thread nD τ) (ucRefs τ sig \ callRefs) (V1 m d)) := by
  rw [StableHlo.held_sub_split _ callRefs_sub, held_callRefs]
  have h0 : V2 m d (Proc.devRef .tc main_v0) = padded m d := Function.update_of_ne (by decide) _ _
  have h1 : V2 m d (Proc.devRef .tc main_arg2) = table m d := Function.update_of_ne (by decide) _ _
  have h2 : V2 m d (Proc.devRef .tc main_v1) = picked (table m d) (padded m d) := Function.update_self _ _ _
  rw [h0, h1, h2]
  exact congrArg (fun R => iprop(callPts d (padded m d) (table m d) (picked (table m d) (padded m d)) ∗ R))
    (StableHlo.held_congr _ fun b hb => Function.update_of_ne (fun h : b = Proc.devRef .tc main_v1 => (Finset.mem_sdiff.mp hb).2 (by rw [h]; simp)) _ _)

theorem padOps_sub : ∀ op ∈ padOps (F := F), op.bufs ⊆ ucRefs τ sig := by
  intro op hop
  refine Pipeline.sub_ucRefs op ?_
  simp only [List.mem_cons, List.mem_nil_iff, or_false] at hop
  rcases hop with rfl | rfl | rfl
  exacts [StableHlo.nullary_bufs_sub .., StableHlo.unary_bufs_sub .., StableHlo.binary_bufs_sub ..]

theorem midOps_sub : ∀ op ∈ midOps (F := F), op.bufs ⊆ ucRefs τ sig := by
  intro op hop
  refine Pipeline.sub_ucRefs op ?_
  simp only [List.mem_cons, List.mem_nil_iff, or_false] at hop
  rcases hop with rfl | rfl | rfl | rfl | rfl | rfl | rfl | rfl | rfl | rfl | rfl | rfl | rfl | rfl | rfl | rfl | rfl | rfl | rfl <;>
    first | exact StableHlo.reshape_bufs_sub .. | exact StableHlo.unary_bufs_sub .. | exact StableHlo.nullary_bufs_sub ..
          | exact StableHlo.binary_bufs_sub ..

theorem padOps_fresh : ∀ op ∈ padOps (F := F), op.fresh = ∅ := by
  intro _ h; (repeat (cases h with | head => rfl | tail _ h => ?_)); exact nomatch h
theorem midOps_fresh : ∀ op ∈ midOps (F := F), op.fresh = ∅ := by
  intro _ h; (repeat (cases h with | head => rfl | tail _ h => ?_)); exact nomatch h

/-! ## @main on the TensorCore -/

/-- The buffers as the pallas_call finds them, by reference. -/
abbrev V3' (d : Dev nD) (b : Ref sig .tc) : Buf (Elt F) ((d : Thread nD τ).loc b) := V3 m d (Proc.devRef .tc b)

/-- What the launch deals the TensorCore for its pallas_call: the pipeline's ghost state. -/
abbrev G (d : Dev nD) : sProp (𝕄 F) :=
  iprop(Pipeline.cellsGhost (Pipeline.pin (pcfgs (F := F)) adm) EP 0 d ∗ Pipeline.toksInit (Pipeline.pin (pcfgs (F := F)) adm) EP 0 d)

/-- What @main leaves. -/
abbrev FIN (d : Dev nD) : sProp (𝕄 F) := regionPost 8 (V3' m) d

set_option backward.isDefEq.respectTransparency.types false in
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  rw [show unscopedBufs d (fun b => m ((SparseCore.T d).loc b)) = StableHlo.held (d : Thread nD τ) (ucRefs τ sig) (StableHlo.launchContents m d)
    from Pipeline.unscopedBufs_held d (StableHlo.launchContents m d)]
  iintro ⟨#Hctx, Hst, ⟨Hb, Hh, Hts, -⟩, Hg, Ht⟩
  ihave #Hlev := ((K (F := F)).ctx_levAts κ) $$ Hctx
  iapply (StableHlo.wp_seq 𝒱 none Set.univ d (ucRefs τ sig) _ padOps padOps_sub padOps_fresh (StableHlo.launchContents m d)) $$ [Hb Hh]
  · isplitl [Hb] <;> iassumption
  iintro ⟨Hb, Hh⟩
  ihave Hh := (Entails.of_eq (show StableHlo.held (d : Thread nD τ) (ucRefs τ sig) (StableHlo.after padOps (StableHlo.launchContents m d)) = _ from held_V1 m d)) $$ Hh
  icases Hh with ⟨Hcall, Hrest⟩
  rw [wp_bind]
  iapply ((K (F := F)).wp_run (D (F := F)) 𝒱 (EH := EH) (P := Pm m) κ d 0) $$ [Hst Hcall Hb Hts Hrest Hg Ht]
  isplitr; · iexact Hctx
  isplitl [Hst]; · iexact Hst
  isplitl [Hcall]
  · iapply (Entails.of_eq (st_eq (padded m) (table m) (rows₀ m) d).symm); iexact Hcall
  iintro ⟨Hst, Hdn⟩
  ihave Hdn := (Entails.of_eq (dn_eq (padded m) (table m) (rows₀ m) d)) $$ Hdn
  ihave Hh := (Entails.of_eq (held_V2 m d).symm) $$ [Hdn Hrest]
  · isplitl [Hdn] <;> iassumption
  iapply (StableHlo.wp_seq 𝒱 none Set.univ d (ucRefs τ sig) _ midOps midOps_sub midOps_fresh (V2 m d)) $$ [Hb Hh]
  · isplitl [Hb] <;> iassumption
  iintro ⟨Hb, Hh⟩
  unfold SparseCore.Cfg.tcSt
  icases Hst with ⟨⟨%W, %hW, HO⟩, Hst⟩
  ihave HO := (Entails.of_eq (show owes (SparseCore.T d) ((K (F := F)).Otc d ((0 : Fin 1).val + 1)) W = owes (d : Thread nD τ) (0 : CellTallies nD τ sig (HIx 1)) W
    from congrArg (fun O => owes (SparseCore.T d) O W) ((K (F := F)).Otc_end d le_rfl))) $$ HO
  iapply ((K (F := F)).wp_liftProg (D (F := F)) 𝒱 (SparseCore.T d) Set.univ none _ _)
  iapply (RDat.RegionSeg.wp (pcfgs (F := F)) adm (rdats 8 (V3' m)) none cellOf_inj EP defs₀ 𝒱₀ (K (F := F)).L (K (F := F)).lev
    (region 8 (V3' m)) d none (fun _ h => nomatch h) _ _)
  rw [show (region 8 (V3' m)).post d = iprop(regionPost 8 (V3' m) d ∗ idleAt 8 d) from rfl,
    show (region 8 (V3' m)).pre d = iprop(unscopedBufs d (V3' m d) ∗ idleAt 8 d) from rfl]
  isplitr [Hb Hh HO Hg Ht]
  · iintro ⟨Hb, ⟨Hp, %W', %hW', HO⟩⟩
    rw [wp_ret]
    imodintro
    isplitl [HO Hst]
    · isplitl [HO]
      · iexists W'; isplitr; · ipureintro; exact hW'
        iapply (Entails.of_eq (show owes (d : Thread nD τ) (0 : CellTallies nD τ sig (HIx 1)) W' = owes (SparseCore.T d) ((K (F := F)).Otc d 1) W'
          from congrArg (fun O => owes (SparseCore.T d) O W') ((K (F := F)).Otc_end d le_rfl).symm)); iexact HO
      iexact Hst
    isplitl [Hp]; · iexact Hp
    isplitl [Hb] <;> iassumption
  isplitl [Hb]; · iexact Hb
  isplitl [Hh HO]
  · isplitl [Hh]
    · iapply (Entails.of_eq (show StableHlo.held (d : Thread nD τ) (ucRefs τ sig) (StableHlo.after midOps (V2 m d)) = _ from (Pipeline.unscopedBufs_held d (V3 m d)).symm)); iexact Hh
    · iexists W; isplitr; · ipureintro; exact hW
      iexact HO
  isplitr; · iexact Hlev
  isplitl [Hg] <;> iassumption

/-! ## The launch -/

/-- The launch element: the handshakes' cells and tokens, the pipeline's, no counter yet. -/
def u₀ : UU := (initOf (K (F := F)).hsCells (K (F := F)).hsToks,
  (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp (𝕄 F)) := bigSep_emp_const s

set_option backward.isDefEq.respectTransparency.types false in
theorem hu₀ : (ownU (u₀ (F := F)) : sProp (𝕄 F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair (initOf (K (F := F)).hsCells (K (F := F)).hsToks) _) $$ Hu
  icases H with ⟨HH, HR⟩
  ihave HP := (show BI.own (embR (initOf (Pipeline.cells (nD := nD) (τ := τ) cfgs cellOf_inj) (Pipeline.launchToks (nD := nD) (τ := τ) cfgs cellOf_inj), (1 : Counters)))
    ⊢ (BI.own (EP (F := F) (initOf (Pipeline.cells (nD := nD) (τ := τ) cfgs cellOf_inj) (Pipeline.launchToks (nD := nD) (τ := τ) cfgs cellOf_inj))) : sProp (𝕄 F)) from .rfl) $$ HR
  ihave Hf := (Pipeline.fund_ghost (Pipeline.pin (pcfgs (F := F)) adm) EP cellOf_inj) $$ HP
  imod Hf
  icases Hf with ⟨Hg, Ht⟩
  imodintro
  isplitl [HH]; · iexact HH
  isplitl [Hg Ht]
  · rw [bigSep_sep']
    isplitl [Hg]
    · iapply (show (bigSep Finset.univ fun d : Dev nD => bigSep Finset.univ fun p : Fin 1 => Pipeline.cellsGhost (Pipeline.pin (pcfgs (F := F)) adm) EP p d)
          ⊢ bigSep Finset.univ fun d : Dev nD => (Pipeline.cellsGhost (Pipeline.pin (pcfgs (F := F)) adm) EP 0 d : sProp (𝕄 F))
        from bigSep_mono fun d _ => Entails.of_eq (bigSep_univ_of_subsingleton (0 : Fin 1)))
      iexact Hg
    · iapply (show (bigSep Finset.univ fun d : Dev nD => bigSep Finset.univ fun p : Fin 1 => Pipeline.toksInit (Pipeline.pin (pcfgs (F := F)) adm) EP p d)
          ⊢ bigSep Finset.univ fun d : Dev nD => (Pipeline.toksInit (Pipeline.pin (pcfgs (F := F)) adm) EP 0 d : sProp (𝕄 F))
        from bigSep_mono fun d _ => Entails.of_eq (bigSep_univ_of_subsingleton (0 : Fin 1)))
      iexact Ht
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-- What the memory holds at the end: each array of the pallas_call contents it may hold after the last write-back, the other arguments
    what the pallas_call found. -/
def fq (d : Dev nD) (s' : Phys nD τ sig (Elt F)) : Prop :=
  (∀ w : Fin cfg1.W, (rdats 8 (V3' m) 0 d).ArrAt w cfg1.N (s'.mem.mem ((cfg1.win w).arr.view.loc (d : Thread nD τ))))
    ∧ s'.mem.mem (posLoc d) = V3' m d main_arg1 ∧ s'.mem.mem (tabLoc d) = V3' m d main_arg2
    ∧ s'.mem.mem (wLoc d) = V3' m d main_arg3 ∧ s'.mem.mem (bLoc d) = V3' m d main_arg4

theorem hfin (d : Dev nD) (s' : Phys nD τ sig (Elt F)) : iprop(FIN m d ∗ SI s') ⊢ (⌜fq m d s'⌝ : sProp (𝕄 F)) := by
  unfold FIN regionPost
  rw [unscopedRest1_eq]
  iintro ⟨⟨Ha, H1, H2, H3, H4, -⟩, HSI⟩
  icombine HSI H1 gives %h1
  icombine HSI H2 gives %h2
  icombine HSI H3 gives %h3
  icombine HSI H4 gives %h4
  ihave Hr := (RDat.arrays_read (pcfgs (F := F)) adm (rdats 8 (V3' m)) (p := 0) launch1.arr_whole d cfg1.N s') $$ [Ha HSI]
  · isplitl [Ha] <;> iassumption
  icases Hr with ⟨%ha, -⟩
  ipureintro
  exact ⟨ha, Buf.eq_of_forall_mem_univ h1, Buf.eq_of_forall_mem_univ h2, Buf.eq_of_forall_mem_univ h3, Buf.eq_of_forall_mem_univ h4⟩

/-- What a run ends in. -/
def QC : PUnit × MemSt nD τ sig (Elt F) → Prop := fun r =>
  (∀ d : Dev nD, (∀ w : Fin cfg1.W, (rdats 8 (V3' m) 0 d).ArrAt w cfg1.N (r.2.mem ((cfg1.win w).arr.view.loc (d : Thread nD τ))))
    ∧ r.2.mem (posLoc d) = V3' m d main_arg1 ∧ r.2.mem (tabLoc d) = V3' m d main_arg2
    ∧ r.2.mem (wLoc d) = V3' m d main_arg3 ∧ r.2.mem (bLoc d) = V3' m d main_arg4) ∧ r.2.sem = fun _ => 0

/-- Every weakly fair run ends, and in such a memory, from positions whose padding stays in the table. -/
theorem run_main (hin : ∀ d j, (padded m d j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (padded m) (table m) (rows₀ m) hin)
    (fun q _ => match q with | 0 => SparseCore.Cfg.VecSplit.of_plain (vecSplit (padded m) (table m) (rows₀ m)))
    m ρ main G (FIN m) (u₀ (F := F)) (sep_elim_left.trans (hu₀ m)) (hmain m ρ) (fq m) (hfin m) (QC m) (fun _ h hz => ⟨h, hz⟩)

end Cert.Proof.Run

end
-- ==== Proof.Frames.lean ====
/-
  The range of the positions, what @main's host operations leave untouched, and the two programs' frames.
-/
module

public import proofs.«01_k».proof.Defs
public import proofs.«01_k».proof.Proof.Main
public import proofs.«01_k».proof.Proof.Gen.Kernel
public import proofs.«01_k».proof.Proof.Gen.Pre_positions_in_table
public import Idealize.ShloMosaic.Lib.ReduceAll
public import Idealize.ShloMosaic.Lib.WordCmp
public import Idealize.ShloMosaic.Lib.KernelVsHost

@[expose] public section

noncomputable section

namespace Cert.Proof.Run

open Cert.KernelIdeal Cert.KernelIdeal.Gen

open Idealize.ShloMosaic Idealize.ShloMosaic.TcCoe Idealize.ShloMosaic.ValueIdx
open Idealize.SL.Sem
open Idealize.ShloMosaic.Pipeline (Dat RDat)

variable {F : FTy → Type} [FloatOps F] [∀ e, Nonempty (Elt F e)]

/-- The precondition of one array of positions: each names a row of the table. -/
theorem range_of_pre (x : FVec F S100000x128 .f32) (pos : IVec S100000 32) (t : FVec F S100000x16 .f32) (w : FVec F S128x144 .f32)
    (b : FVec F S128 .f32) (h : Cert.Pre_positions_in_table.fn (F := F) x pos t w b = fun _ => 1#1) (j : S100000.Idx) :
    (pos j).toNat < 100000 := by
  have e := congrFun h (fun a => a.elim0)
  simp only [Cert.Pre_positions_in_table.fn] at e
  have hs : Subsingleton (Cert.Pre_positions_in_table.S_).Idx := ⟨fun a b => funext fun i => i.elim0⟩
  have e' := Host.reduce_andi_all _ _ _ _ _ e j
  exact (WordCmp.ofBool_decide_eq_one_iff _).mp ((WordCmp.andi_sge_zero_slt_ofNat (k := 100000) (by decide) (pos j)).symm.trans e')

variable (m : (ℓ : Loc nD τ sig) → Buf (Elt F) ℓ) (d : Dev nD)

/-! ## What the host operations write -/

abbrev padRefs : List (Ref sig .tc) := [main_c, main_call0_v0, main_v0]
abbrev midRefs : List (Ref sig .tc) :=
  [main_v2, main_v3, main_v4, main_v5, main_v6, main_v7, main_v8, main_c_0, main_v9, main_v10, main_v11, main_v12, main_v13, main_v14,
    main_v15, main_v16, main_v17, main_v18, main_v19]

/-- A buffer the padding does not write holds what it held at launch. -/
theorem V1_of_not_mem {r : Ref sig .tc} (h : r ∉ padRefs) : V1 m d (Proc.devRef .tc r) = m ((d : Thread nD τ).loc r) :=
  StableHlo.after_of_writes_sub (W := padRefs) padOps _ (StableHlo.forall_writes_sub_of_map rfl) h

/-- A buffer no host operation writes, and not the gathered rows', holds at the pallas_call what it held at launch. -/
theorem V3_of_not_mem {r : Ref sig .tc} (hp : r ∉ padRefs) (h1 : r ≠ main_v1) (hm : r ∉ midRefs) :
    V3' m d r = m ((d : Thread nD τ).loc r) :=
  (StableHlo.after_of_writes_sub (W := midRefs) midOps _ (StableHlo.forall_writes_sub_of_map rfl) hm).trans
    ((Function.update_of_ne (fun e => h1 (Proc.devRef_injective _ e)) _ _).trans (V1_of_not_mem m d hp))

theorem V3_x : V3' m d main_arg0 = m (xLoc d) := V3_of_not_mem m d (by decide) (by decide) (by decide)
theorem V3_pos : V3' m d main_arg1 = m (posLoc d) := V3_of_not_mem m d (by decide) (by decide) (by decide)
theorem V3_tab : V3' m d main_arg2 = m (tabLoc d) := V3_of_not_mem m d (by decide) (by decide) (by decide)
theorem V3_w : V3' m d main_arg3 = m (wLoc d) := V3_of_not_mem m d (by decide) (by decide) (by decide)
theorem V3_b : V3' m d main_arg4 = m (bLoc d) := V3_of_not_mem m d (by decide) (by decide) (by decide)

/-- The table as the SparseCore call finds it. -/
theorem table_eq : table m d = m (tabLoc d) := V1_of_not_mem m d (by decide)

/-- The positions as the SparseCore call finds them: 2400 zeros after the given ones. -/
theorem padded_eq : padded m d = pad S102400 ![0] ![2400] ![0] (m (posLoc d) : S100000.Idx → BitVec 32) (constantI S_ 32 0#32)
    pads_S100000_S102400_024000 h_S_ := by
  unfold padded V1
  after_results
  rfl

/-- Entry `j` of a list of positions padded with 2400 zeros. -/
theorem pad_positions (pos : S100000.Idx → BitVec 32) (j : S102400.Idx) :
    pad S102400 ![0] ![2400] ![0] pos (constantI S_ 32 0#32) pads_S100000_S102400_024000 h_S_ j
      = if h : (j 0).val < 100000 then pos (ValueIdx.ix1 ⟨(j 0).val, h⟩) else 0#32 := by
  split
  · next h =>
    refine pad_apply_of_inside _ _ _ _ _ _ _ j _ fun a => ?_
    match a with
    | ⟨0, _⟩ => show (j 0).val = 0 + (j 0).val * (0 + 1); omega
  · next h =>
    refine pad_apply_of_not_inside _ _ _ _ _ _ _ j 0 fun hin => h ?_
    have h0 : ((j 0).val - 0) / (0 + 1) < 100000 := hin.2.2
    omega

/-- Entry `j` of the padded positions: the given position, or zero. -/
theorem padded_apply (j : S102400.Idx) :
    padded m d j = if h : (j 0).val < 100000 then (m (posLoc d) : S100000.Idx → BitVec 32) (ValueIdx.ix1 ⟨(j 0).val, h⟩) else 0#32 :=
  (congrFun (padded_eq m d) j).trans (pad_positions _ j)

/-- The padded positions stay in the table where the given ones do. -/
theorem padded_lt (h : ∀ j : S100000.Idx, ((m (posLoc d) : S100000.Idx → BitVec 32) j).toNat < 100000) (j : S102400.Idx) :
    (padded m d j).toNat < 100000 := by
  rw [padded_apply]
  split
  · exact h _
  · decide

/-! ## The frames -/

/-- What a run ends in says of the arguments: unchanged. -/
theorem args_of_QC (r : PUnit × MemSt nD τ sig (Elt F)) (h : QC m r) (d : Dev nD) :
    r.2.mem (xLoc d) = m (xLoc d) ∧ r.2.mem (posLoc d) = m (posLoc d) ∧ r.2.mem (tabLoc d) = m (tabLoc d)
      ∧ r.2.mem (wLoc d) = m (wLoc d) ∧ r.2.mem (bLoc d) = m (bLoc d) := by
  obtain ⟨ha, h1, h2, h3, h4⟩ := h.1 d
  refine ⟨?_, h1.trans (V3_pos m d), h2.trans (V3_tab m d), h3.trans (V3_w m d), h4.trans (V3_b m d)⟩
  have h0 := ha 0
  rw [RDat.ArrAt_in _ 0 rfl] at h0
  exact h0.trans (V3_x m d)

end Cert.Proof.Run

namespace Cert.Proof

open Idealize.ShloMosaic Idealize.SL.Sem Cert.Proof.Run

/-- From any memory whose positions name rows of the table, the run leaves the arguments as they were and every counter at zero. -/
theorem run_args {F : FTy → Type} [FloatOps F] [∀ e, Nonempty (Elt F e)] (m : (ℓ : Loc KernelIdeal.nD KernelIdeal.τ KernelIdeal.sig) → Buf (Elt F) ℓ)
    (ρ : Dev KernelIdeal.nD → PrngReg)
    (hpre : ∀ d : Dev KernelIdeal.nD, Cert.Pre_positions_in_table.fn (F := F) (m (xLoc d)) (m (posLoc d)) (m (tabLoc d)) (m (wLoc d)) (m (bLoc d))
      = fun _ => 1#1) :
    θ_run (Cert.KernelIdeal.defs (F := F)) (Cert.KernelIdeal.threads (F := F)) ⟨m, fun _ => 0, ρ⟩ (fun r =>
      (∀ d : Dev KernelIdeal.nD, r.2.mem (xLoc d) = m (xLoc d) ∧ r.2.mem (posLoc d) = m (posLoc d) ∧ r.2.mem (tabLoc d) = m (tabLoc d)
        ∧ r.2.mem (wLoc d) = m (wLoc d) ∧ r.2.mem (bLoc d) = m (bLoc d)) ∧ r.2.sem = fun _ => 0) :=
  (θ_run (Cert.KernelIdeal.defs (F := F)) _ _).mono (fun r h => ⟨fun d => args_of_QC m r h d, h.2⟩)
    (run_main m ρ fun d j => padded_lt m d (range_of_pre _ _ _ _ _ (hpre d)) j)

theorem frame_kernelIdeal : Cert.quiescent_KernelIdeal := fun m ρ hpre => run_args (F := Ideal) m ρ hpre

/-- The two programs' kernels are the same text. -/
theorem defs₀_eq : Cert.Kernel.defs₀ (F := Bits) = Cert.KernelIdeal.defs₀ (F := Bits) := by
  funext p ℓ a
  match p, ℓ, a with
  | .tc, 0, _ => rfl
  | .tc, 1, _ => rfl
  | .scVector c s, 0, _ => rfl
  | .scVector c s, 1, _ => rfl
  | .scScalar c, 0, _ => rfl
  | .scScalar c, 1, _ => rfl

/-- And so are the tables of their calls' bodies. -/
theorem defs_eq : Cert.Kernel.defs (F := Bits) = Cert.KernelIdeal.defs (F := Bits) :=
  congrArg (fun D => (Cert.KernelIdeal.sc (F := Bits)).defs (Pipeline.defs Cert.KernelIdeal.pcfgs D)) defs₀_eq

theorem frame_kernel : Cert.quiescent_Kernel := fun m ρ hpre => by
  rw [defs_eq]
  exact run_args (F := Bits) m ρ hpre

end Cert.Proof

end
-- ==== Proof.Payload.lean ====
/-
  The projection kernel's stored block and its operands, each read at one entry, at the ideal values.
-/
module

public import proofs.«01_k».proof.Proof.Frames
public import Idealize.ShloMosaic.Lib.MatmulPlain
public import Idealize.ShloMosaic.Lib.ValueIdx
public import Idealize.ShloMosaic.Lib.ValueLayout
public import Idealize.ShloMosaic.Lib.IdealHost

@[expose] public section

noncomputable section

namespace Cert.Proof.Run

open Cert.KernelIdeal Cert.KernelIdeal.Gen

open Idealize.ShloMosaic Idealize.ShloMosaic.ValueIdx
open scoped BigOperators

/-! ## The stored block -/

/-- Row `r` of the block read from the packed product: packed row `r / 8`, column `128 · (r % 8) + c`. -/
theorem unpack_apply {α : Type} (v : S2048x1024.Idx → α) (r : Fin 16384) (c : Fin 128) :
    shapeCast S16384x128 v shapeCasts_S2048x1024_S16384x128 (ix2 r c)
      = v (ix2 (⟨r.val / 8, by omega⟩ : Fin 2048) (⟨128 * (r.val % 8) + c.val, by omega⟩ : Fin 1024)) := by
  refine shapeCast_apply _ _ _ _ ?_
  rw [Shape.rowMajor_val_two, Shape.rowMajor_val_two]
  show r.val / 8 * 1024 + (128 * (r.val % 8) + c.val) = r.val * 128 + c.val
  omega

/-- The block the kernel stores, at row `r` and column `c`. -/
theorem pay_apply (v0 : Vec Ideal S2048x128 .f32) (v2 : Vec Ideal S128x1024 .f32) (v5 : Vec Ideal S16384x128 .f32)
    (v6 : Vec Ideal S128x128 .f32) (v11 : Vec Ideal S1x128 .f32) (r : Fin 16384) (c : Fin 128) :
    (k1_pay1 v0 v2 v5 v6 v11 (ix2 r c) : EReal)
      = ((∑ k : Fin 128, v5 (ix2 r k) * v6 (ix2 k c))
          + ∑ q : Fin 128, v0 (ix2 (⟨r.val / 8, by omega⟩ : Fin 2048) q) * v2 (ix2 q (⟨128 * (r.val % 8) + c.val, by omega⟩ : Fin 1024)))
        + v11 (ix2 (0 : Fin 1) c) := by
  unfold k1_pay1
  simp only [shapeCast_self]
  rw [addf_apply, addf_apply, unpack_apply]
  congr 1
  · congr 1
    · exact (Ideal.matmul_plain_apply none v5 v6 _ r c).trans
        ((congrArg (· + _) Ideal.ofBits_zero_f32).trans (zero_add _))
    · exact (Ideal.matmul_plain_apply none v0 v2 _ _ _).trans
        ((congrArg (· + _) Ideal.ofBits_zero_f32).trans (zero_add _))
  · refine broadcastTo_apply _ _ _ _ fun a => ?_
    match a with
    | ⟨0, _⟩ => rfl
    | ⟨1, _⟩ => rfl

/-! ## The operands the host prepares -/

/-- The gathered rows, eight to a line of 128. -/
theorem packed_apply {α : Type} (v : S102400x16.Idx → α) (r : Fin 12800) (q : Fin 128) :
    shapeCast S12800x128 v shapeCasts_S102400x16_S12800x128 (ix2 r q)
      = v (ix2 (⟨8 * r.val + q.val / 16, by omega⟩ : Fin 102400) (⟨q.val % 16, by omega⟩ : Fin 16)) := by
  refine shapeCast_apply _ _ _ _ ?_
  rw [Shape.rowMajor_val_two, Shape.rowMajor_val_two]
  show (8 * r.val + q.val / 16) * 16 + q.val % 16 = r.val * 128 + q.val
  omega

/-- The first 128 columns of the weights, transposed. -/
theorem wx_apply {α : Type} (W : S128x144.Idx → α) (k c : Fin 128) :
    transpose S128x128 [1, 0] (extractStridedSlice S128x128 ![0, 0] W slices_S128x144_S128x128_0_0) transposes_S128x128_S128x128_1_0 (ix2 k c)
      = W (ix2 c (⟨k.val, by omega⟩ : Fin 144)) := by
  rw [transpose_ix2_apply]
  refine extractStridedSlice_apply _ _ _ _ _ fun a => ?_
  match a with
  | ⟨0, _⟩ => exact (Nat.zero_add _).symm
  | ⟨1, _⟩ => exact (Nat.zero_add _).symm

/-- The last 16 columns of the weights, transposed. -/
theorem wp_apply {α : Type} (W : S128x144.Idx → α) (p : Fin 16) (c : Fin 128) :
    transpose S16x128 [1, 0] (extractStridedSlice S128x16 ![0, 128] W slices_S128x144_S128x16_0_128) transposes_S128x16_S16x128_1_0 (ix2 p c)
      = W (ix2 c (⟨128 + p.val, by omega⟩ : Fin 144)) := by
  rw [transpose_ix2_apply]
  refine extractStridedSlice_apply _ _ _ _ _ fun a => ?_
  match a with
  | ⟨0, _⟩ => exact (Nat.zero_add _).symm
  | ⟨1, _⟩ => rfl

/-- The 8 by 8 identity matrix as the host computes it. -/
abbrev eye : FVec Ideal S8x8 .f32 :=
  uitofp .f32 (cmpi .eq (addi (iotaInDim S8x8 32 0) (broadcastInDim S8x8 ![] bcast_S_S8x8 (constantI S_ 32 0#32))) (iotaInDim S8x8 32 1))

theorem eye_apply (a e : Fin 8) : (eye (ix2 a e) : EReal) = if a = e then 1 else 0 := by
  show ((((IntOp.cmpi .eq (IntOp.addi (BitVec.ofNat 32 a.val) 0#32) (BitVec.ofNat 32 e.val)).toNat : ℝ) : EReal)) = _
  have h : ∀ a e : Fin 8, (IntOp.cmpi .eq (IntOp.addi (BitVec.ofNat 32 a.val) 0#32) (BitVec.ofNat 32 e.val)).toNat = if a = e then 1 else 0 := by
    decide
  rw [h a e]
  split <;> simp

/-- The block-diagonal weights: eight copies of the last 16 columns down the diagonal. -/
abbrev blockDiag (W : FVec Ideal S128x144 .f32) : FVec Ideal S128x1024 .f32 :=
  shapeCast S128x1024
    (mulf (broadcastInDim S8x16x8x128 ![0, 1, 2, 3] bcast_S8x1x8x1_S8x16x8x128_0_1_2_3 (broadcastInDim S8x1x8x1 ![0, 2] bcast_S8x8_S8x1x8x1_0_2 eye))
      (broadcastInDim S8x16x8x128 ![0, 1, 2, 3] bcast_S1x16x1x128_S8x16x8x128_0_1_2_3
        (broadcastInDim S1x16x1x128 ![1, 3] bcast_S16x128_S1x16x1x128_1_3
          (transpose S16x128 [1, 0] (extractStridedSlice S128x16 ![0, 128] W slices_S128x144_S128x16_0_128) transposes_S128x16_S16x128_1_0))))
    shapeCasts_S8x16x8x128_S128x1024

theorem blockDiag_apply (W : FVec Ideal S128x144 .f32) (q : Fin 128) (a : Fin 8) (c : Fin 128) :
    (blockDiag W (ix2 q (⟨128 * a.val + c.val, by omega⟩ : Fin 1024)) : EReal)
      = (if q.val / 16 = a.val then 1 else 0) * W (ix2 c (⟨128 + q.val % 16, by omega⟩ : Fin 144)) := by
  have e4 : blockDiag W (ix2 q (⟨128 * a.val + c.val, by omega⟩ : Fin 1024)) = _ :=
    shapeCast_apply _ _ _ (ix4 (⟨q.val / 16, by omega⟩ : Fin 8) (⟨q.val % 16, by omega⟩ : Fin 16) a c) (by
      rw [Shape.rowMajor_val_four, Shape.rowMajor_val_two]
      show ((q.val / 16 * 16 + q.val % 16) * 8 + a.val) * 128 + c.val = q.val * 1024 + (128 * a.val + c.val)
      omega)
  rw [e4, mulf_apply]
  congr 1
  · rw [broadcastInDim_apply _ _ _ _ (ix4 (⟨q.val / 16, by omega⟩ : Fin 8) (0 : Fin 1) a (0 : Fin 1)) (by intro b; fin_cases b <;> rfl),
      broadcastInDim_apply _ _ _ _ (ix2 (⟨q.val / 16, by omega⟩ : Fin 8) a) (by intro b; fin_cases b <;> rfl), eye_apply]
    exact if_congr Fin.ext_iff rfl rfl
  · rw [broadcastInDim_apply _ _ _ _ (ix4 (0 : Fin 1) (⟨q.val % 16, by omega⟩ : Fin 16) (0 : Fin 1) c) (by intro b; fin_cases b <;> rfl),
      broadcastInDim_apply _ _ _ _ (ix2 (⟨q.val % 16, by omega⟩ : Fin 16) c) (by intro b; fin_cases b <;> rfl), wp_apply]

/-- The bias as a one-row matrix. -/
theorem bias_apply {α : Type} (b : S128.Idx → α) (c : Fin 128) :
    shapeCast S1x128 b shapeCasts_S128_S1x128 (ix2 (0 : Fin 1) c) = b (ValueIdx.ix1 c) := by
  refine shapeCast_apply _ _ _ _ ?_
  rw [Shape.rowMajor_val_one, Shape.rowMajor_val_two]
  show c.val = 0 * 128 + c.val
  omega

/-! ## The sum over a packed line -/

/-- A sum over a line of 128 of which only the sixteen entries of part `a` count. -/
theorem sum_line (f : ℕ → ℕ → EReal) (g : ℕ → EReal) (a : Fin 8) :
    ∑ q : Fin 128, f (q.val / 16) (q.val % 16) * ((if q.val / 16 = a.val then 1 else 0) * g (q.val % 16))
      = ∑ p : Fin 16, f a.val p.val * g p.val := by
  rw [← Equiv.sum_comp (finProdFinEquiv (m := 8) (n := 16)), Fintype.sum_prod_type, Finset.sum_eq_single a]
  · refine Finset.sum_congr rfl fun p _ => ?_
    have h1 : (finProdFinEquiv (a, p)).val / 16 = a.val := by simp [finProdFinEquiv]; omega
    have h2 : (finProdFinEquiv (a, p)).val % 16 = p.val := by simp [finProdFinEquiv]
    rw [h1, h2, if_pos rfl, one_mul]
  · intro e _ he
    refine Finset.sum_eq_zero fun p _ => ?_
    have h1 : (finProdFinEquiv (e, p)).val / 16 = e.val := by simp [finProdFinEquiv]; omega
    rw [h1, if_neg (fun h => he (Fin.ext h)), zero_mul, mul_zero]
  · exact fun h => absurd (Finset.mem_univ _) h

end Cert.Proof.Run

end
-- ==== Proof.Blocks.lean ====
/-
  The pallas_call's blocks at coordinates: what each operand's block holds, and the result array from the blocks stored.
-/
module

public import proofs.«01_k».proof.Proof.Payload
public import Idealize.ShloMosaic.Lib.Pipeline.ArrRel
public import Idealize.ShloMosaic.Lib.Pipeline.ValueKit.Geometry

@[expose] public section

noncomputable section

namespace Cert.Proof.Run

open Cert.KernelIdeal Cert.KernelIdeal.Gen

open Idealize.ShloMosaic Idealize.ShloMosaic.TcCoe Idealize.ShloMosaic.ValueIdx
open Idealize.ShloMosaic.Pipeline (Dat RDat)
open scoped BigOperators

/-! ## Where the blocks lie -/

theorem index_0 : ∀ t : Fin cfg1.N, win1_0.index t = ![t.val, 0] := by decide +kernel
theorem index_1 : ∀ t : Fin cfg1.N, win1_1.index t = ![t.val, 0] := by decide +kernel
theorem index_2 : ∀ t : Fin cfg1.N, win1_2.index t = ![0, 0] := by decide +kernel
theorem index_3 : ∀ t : Fin cfg1.N, win1_3.index t = ![0, 0] := by decide +kernel
theorem index_4 : ∀ t : Fin cfg1.N, win1_4.index t = ![0, 0] := by decide +kernel
theorem index_5 : ∀ t : Fin cfg1.N, win1_5.index t = ![t.val, 0] := by decide +kernel

/-- How much of each block lies inside its array. -/
theorem xsize_0 : ∀ t : Fin cfg1.N, win1_0.xsize (cfg1.grid.coords t) = ![min 16384 (100000 - 16384 * t.val), 128] := by decide +kernel
theorem xsize_1 : ∀ t : Fin cfg1.N, win1_1.xsize (cfg1.grid.coords t) = ![min 2048 (12800 - 2048 * t.val), 128] := by decide +kernel
theorem xsize_5 : ∀ t : Fin cfg1.N, win1_5.xsize (cfg1.grid.coords t) = ![min 16384 (100000 - 16384 * t.val), 128] := by decide +kernel

variable (V : (c : Dev nD) → (b : Ref sig .tc) → Buf (Elt Ideal) ((c : Thread nD τ).loc b)) (c : Dev nD) (t : Fin cfg1.N)

/-- The arrays the pallas_call reads: `x`, the packed rows, the block-diagonal weights, the transposed weights, the bias. -/
abbrev xArr : S100000x128.Idx → EReal := V c main_arg0
abbrev packedArr : S12800x128.Idx → EReal := V c main_v2
abbrev diagArr : S128x1024.Idx → EReal := V c main_v18
abbrev wxArr : S128x128.Idx → EReal := V c main_v4
abbrev biasArr : S1x128.Idx → EReal := V c main_v19

/-- The block of `x` at a row inside the array. -/
theorem staged_0 (d) (r : Fin 16384) (k : Fin 128) (n : Fin 100000) (hn : n.val = 16384 * t.val + r.val) :
    staged V c 0 t d (ix2 r k) = xArr V c (ix2 n k) := by
  have hm : win1_0.moved (cfg1.grid.coords t) (ix2 r k) = true := (win1_0.moved_iff _ _).mpr fun a => by
    rw [xsize_0]
    match a with
    | ⟨0, _⟩ => show r.val < min 16384 (100000 - 16384 * t.val); omega
    | ⟨1, _⟩ => exact k.isLt
  show win1_0.fill _ _ _ _ = _
  unfold Pipeline.Window.fill
  rw [dif_pos hm]
  show xArr V c _ = _
  refine congrArg _ (funext fun a => Fin.ext ?_)
  match a with
  | ⟨0, _⟩ => blk_simp [index_0]; show t.val * 16384 + r.val = n.val; omega
  | ⟨1, _⟩ => blk_simp [index_0]

/-- The block of packed rows at a row inside the array. -/
theorem staged_1 (d) (r : Fin 2048) (q : Fin 128) (n : Fin 12800) (hn : n.val = 2048 * t.val + r.val) :
    staged V c 1 t d (ix2 r q) = packedArr V c (ix2 n q) := by
  have hm : win1_1.moved (cfg1.grid.coords t) (ix2 r q) = true := (win1_1.moved_iff _ _).mpr fun a => by
    rw [xsize_1]
    match a with
    | ⟨0, _⟩ => show r.val < min 2048 (12800 - 2048 * t.val); omega
    | ⟨1, _⟩ => exact q.isLt
  show win1_1.fill _ _ _ _ = _
  unfold Pipeline.Window.fill
  rw [dif_pos hm]
  show packedArr V c _ = _
  refine congrArg _ (funext fun a => Fin.ext ?_)
  match a with
  | ⟨0, _⟩ => blk_simp [index_1]; show t.val * 2048 + r.val = n.val; omega
  | ⟨1, _⟩ => blk_simp [index_1]

/-- The three operands that are one block each. -/
theorem blk_2 (q : Fin 128) (n : Fin 1024) : blk V c 2 t (ix2 q n) = diagArr V c (ix2 q n) := by
  show diagArr V c _ = _
  refine congrArg _ (funext fun a => Fin.ext ?_)
  match a with
  | ⟨0, _⟩ => blk_simp [index_2]
  | ⟨1, _⟩ => blk_simp [index_2]
theorem blk_3 (k n : Fin 128) : blk V c 3 t (ix2 k n) = wxArr V c (ix2 k n) := by
  show wxArr V c _ = _
  refine congrArg _ (funext fun a => Fin.ext ?_)
  match a with
  | ⟨0, _⟩ => blk_simp [index_3]
  | ⟨1, _⟩ => blk_simp [index_3]
theorem blk_4 (n : Fin 128) : blk V c 4 t (ix2 (0 : Fin 1) n) = biasArr V c (ix2 (0 : Fin 1) n) := by
  show biasArr V c _ = _
  refine congrArg _ (funext fun a => Fin.ext ?_)
  match a with
  | ⟨0, _⟩ => blk_simp [index_4]
  | ⟨1, _⟩ => blk_simp [index_4]

/-- What the body leaves at a row inside the array, from the arrays the pallas_call reads. -/
theorem left_apply {X : S16384x128.Idx → EReal} (hX : Left V c 5 t X) (r : Fin 16384) (j : Fin 128) (n : Fin 100000)
    (hn : n.val = 16384 * t.val + r.val) :
    X (ix2 r j)
      = ((∑ k : Fin 128, xArr V c (ix2 n k) * wxArr V c (ix2 k j))
          + ∑ q : Fin 128, packedArr V c (ix2 (⟨n.val / 8, by omega⟩ : Fin 12800) q)
              * diagArr V c (ix2 q (⟨128 * (n.val % 8) + j.val, by omega⟩ : Fin 1024)))
        + biasArr V c (ix2 (0 : Fin 1) j) := by
  obtain ⟨d0, d1, rfl⟩ := hX
  refine (pay_apply _ _ _ _ _ r j).trans ?_
  have h8 : n.val % 8 = r.val % 8 := by omega
  congr 1
  · congr 1
    · refine Finset.sum_congr rfl fun k _ => ?_
      rw [staged_0 V c t d0 r k n hn, blk_3]
    · refine Finset.sum_congr rfl fun q _ => ?_
      rw [staged_1 V c t d1 _ q ⟨n.val / 8, by omega⟩ (by show n.val / 8 = 2048 * t.val + r.val / 8; omega), blk_2]
      simp only [h8]
  · exact blk_4 V c t j

/-- The result array, once each entry of it has the value the body leaves there. -/
theorem result_of_blocks {n₀ : ℕ} {G : S100000x128.Idx → EReal} (hG : (rdats n₀ V 0 c).ArrAt 5 cfg1.N G)
    (out : S100000x128.Idx → EReal)
    (h : ∀ (n : Fin 100000) (j : Fin 128),
      ((∑ k : Fin 128, xArr V c (ix2 n k) * wxArr V c (ix2 k j))
          + ∑ q : Fin 128, packedArr V c (ix2 (⟨n.val / 8, by omega⟩ : Fin 12800) q)
              * diagArr V c (ix2 q (⟨128 * (n.val % 8) + j.val, by omega⟩ : Fin 1024)))
        + biasArr V c (ix2 (0 : Fin 1) j) = out (ix2 n j)) : G = out := by
  obtain ⟨X, hX, hA⟩ := hG.exists_exact
  rw [hA (Function.update (fun _ _ _ => Classical.arbitrary _) 5 X) fun u _ _ => by rw [Function.update_self]]
  refine Dat.arrAt_eq_of_covers (Val := Elt Ideal) (cfg := cfg1) (c := c) _ 5 out (by decide +kernel) fun t hf y => ?_
  have hl : Left V c 5 t (X t) := Dat.toRRel_leaves _ (by rfl) (hX t t.isLt hf)
  have h0 : (y 0).val < min 16384 (100000 - 16384 * t.val) := by
    have e := (y 0).isLt
    have e' := congrFun (xsize_5 t) 0
    exact e.trans_eq e'
  have h1 : (y 1).val < 128 := by
    have e := (y 1).isLt
    have e' := congrFun (xsize_5 t) 1
    exact e.trans_eq e'
  have hl' := left_apply V c t hl ⟨(y 0).val, by omega⟩ ⟨(y 1).val, h1⟩ ⟨16384 * t.val + (y 0).val, by omega⟩ rfl
  rw [h] at hl'
  blk_simp
  rw [Pipeline.RDat.withAfter_after, Function.update_self]
  refine Eq.trans (congrArg (X t) (funext fun a => Fin.ext ?_)) (hl'.trans (congrArg out (funext fun a => Fin.ext ?_)))
  · match a with
    | ⟨0, _⟩ => rfl
    | ⟨1, _⟩ => rfl
  · match a with
    | ⟨0, _⟩ => blk_simp [index_5]; show 16384 * t.val + (y 0).val = t.val * 16384 + (y 0).val; omega
    | ⟨1, _⟩ => blk_simp [index_5]; rfl

end Cert.Proof.Run

end
-- ==== Proof.Result.lean ====
/-
  The kernel's result, entry by entry: the row of `x` and the row of the table its position names, times the weights, plus the bias.
-/
module

public import proofs.«01_k».proof.Proof.Blocks

@[expose] public section

noncomputable section

namespace Cert.Proof.Run

open Cert.KernelIdeal Cert.KernelIdeal.Gen

open Idealize.ShloMosaic Idealize.ShloMosaic.TcCoe Idealize.ShloMosaic.ValueIdx
open Idealize.SL.Sem
open scoped BigOperators

/-- The projection of each row of `x` joined with the table's row its position names. -/
def projected (x : S100000x128.Idx → EReal) (pos : S100000.Idx → BitVec 32) (tab : S100000x16.Idx → EReal) (W : S128x144.Idx → EReal)
    (b : S128.Idx → EReal) : S100000x128.Idx → EReal := fun i =>
  ((∑ k : Fin 128, x (ix2 (i 0) k) * W (ix2 (i 1) (⟨k.val, by omega⟩ : Fin 144)))
      + ∑ p : Fin 16, tab (ix2 (rowNo (pos (ValueIdx.ix1 (i 0)))) p) * W (ix2 (i 1) (⟨128 + p.val, by omega⟩ : Fin 144)))
    + b (ValueIdx.ix1 (i 1))

theorem projected_apply (x : S100000x128.Idx → EReal) (pos : S100000.Idx → BitVec 32) (tab : S100000x16.Idx → EReal)
    (W : S128x144.Idx → EReal) (b : S128.Idx → EReal) (n : Fin 100000) (j : Fin 128) :
    projected x pos tab W b (ix2 n j)
      = ((∑ k : Fin 128, x (ix2 n k) * W (ix2 j (⟨k.val, by omega⟩ : Fin 144)))
          + ∑ p : Fin 16, tab (ix2 (rowNo (pos (ValueIdx.ix1 n))) p) * W (ix2 j (⟨128 + p.val, by omega⟩ : Fin 144)))
        + b (ValueIdx.ix1 j) := rfl

variable (m : (ℓ : Loc nD τ sig) → Buf (Elt Ideal) ℓ) (d : Dev nD)

/-! ## The operands of the pallas_call -/

theorem V2_of_not_mem {r : Ref sig .tc} (hp : r ∉ padRefs) (h1 : r ≠ main_v1) :
    V2 m d (Proc.devRef .tc r) = m ((d : Thread nD τ).loc r) :=
  (Function.update_of_ne (fun e => h1 (Proc.devRef_injective _ e)) _ _).trans (V1_of_not_mem m d hp)

theorem V2_w : V2 m d (Proc.devRef .tc main_arg3) = m (wLoc d) := V2_of_not_mem m d (by decide) (by decide)
theorem V2_b : V2 m d (Proc.devRef .tc main_arg4) = m (bLoc d) := V2_of_not_mem m d (by decide) (by decide)
theorem V2_rows : V2 m d (Proc.devRef .tc main_v1) = picked (table m d) (padded m d) := Function.update_self _ _ _

theorem packed_eq : packedArr (V3' m) d
    = shapeCast S12800x128 (picked (F := Ideal) (m (tabLoc d)) (padded m d)) shapeCasts_S102400x16_S12800x128 := by
  have e : packedArr (V3' m) d = shapeCast S12800x128 (V2 m d (Proc.devRef .tc main_v1)) shapeCasts_S102400x16_S12800x128 := by
    unfold packedArr V3' V3; after_results; rfl
  rw [e, V2_rows, table_eq]

theorem wx_eq : wxArr (V3' m) d
    = transpose S128x128 [1, 0] (extractStridedSlice S128x128 ![0, 0] (m (wLoc d) : S128x144.Idx → EReal) slices_S128x144_S128x128_0_0)
        transposes_S128x128_S128x128_1_0 := by
  rw [← V2_w m d]; unfold wxArr V3' V3; after_results

theorem diag_eq : diagArr (V3' m) d = blockDiag (m (wLoc d) : S128x144.Idx → EReal) := by
  rw [← V2_w m d]; unfold diagArr V3' V3; after_results; rfl

theorem bias_eq : biasArr (V3' m) d = shapeCast S1x128 (m (bLoc d) : S128.Idx → EReal) shapeCasts_S128_S1x128 := by
  rw [← V2_b m d]; unfold biasArr V3' V3; after_results; rfl

/-! ## One entry of the result -/

/-- The rows packed eight to a line against the block-diagonal weights: row `n` of the table's rows against its sixteen columns. -/
theorem line_sum (tab : S100000x16.Idx → EReal) (fl : S102400.Idx → BitVec 32) (W : S128x144.Idx → EReal) (n : Fin 100000) (j : Fin 128) :
    ∑ q : Fin 128, shapeCast S12800x128 (picked (F := Ideal) tab fl) shapeCasts_S102400x16_S12800x128 (ix2 (⟨n.val / 8, by omega⟩ : Fin 12800) q)
        * blockDiag W (ix2 q (⟨128 * (n.val % 8) + j.val, by omega⟩ : Fin 1024))
      = ∑ p : Fin 16, tab (ix2 (rowNo (fl (ValueIdx.ix1 (⟨n.val, by omega⟩ : Fin 102400)))) p) * W (ix2 j (⟨128 + p.val, by omega⟩ : Fin 144)) := by
  have hn : 8 * (n.val / 8) + n.val % 8 = n.val := by omega
  refine (Finset.sum_congr rfl fun q _ => ?_).trans ((sum_line
    (fun e p => if h : 8 * (n.val / 8) + e < 102400 ∧ p < 16 then
      tab (ix2 (rowNo (fl (ValueIdx.ix1 (⟨8 * (n.val / 8) + e, h.1⟩ : Fin 102400)))) ⟨p, h.2⟩) else 0)
    (fun p => if h : p < 16 then W (ix2 j (⟨128 + p, by omega⟩ : Fin 144)) else 0)
    ⟨n.val % 8, by omega⟩).trans (Finset.sum_congr rfl fun p _ => ?_))
  · rw [packed_apply, blockDiag_apply W q ⟨n.val % 8, by omega⟩ j]
    simp only [dif_pos (show 8 * (n.val / 8) + q.val / 16 < 102400 ∧ q.val % 16 < 16 by omega), dif_pos (show q.val % 16 < 16 by omega)]
    rfl
  · simp only [hn, dif_pos (show n.val < 102400 ∧ p.val < 16 by omega), dif_pos p.isLt]

/-- The result array of the pallas_call. -/
theorem result_eq {n₀ : ℕ} {G : S100000x128.Idx → EReal} (hG : (rdats n₀ (V3' m) 0 d).ArrAt 5 cfg1.N G) :
    G = projected (m (xLoc d)) (m (posLoc d)) (m (tabLoc d)) (m (wLoc d)) (m (bLoc d)) := by
  refine result_of_blocks (V3' m) d hG _ fun n j => ?_
  rw [packed_eq, wx_eq, diag_eq, bias_eq, line_sum, bias_apply, show xArr (V3' m) d = m (xLoc d) from V3_x m d,
    padded_apply, dif_pos (show ((ValueIdx.ix1 (⟨n.val, by omega⟩ : Fin 102400)) 0).val < 100000 from n.isLt)]
  unfold projected
  congr 2
  exact Finset.sum_congr rfl fun k _ => congrArg (HMul.hMul (α := EReal) (β := EReal) (γ := EReal) (m (xLoc d) (ix2 n k))) (wx_apply (m (wLoc d) : S128x144.Idx → EReal) k j)

end Cert.Proof.Run

namespace Cert.Proof

open Idealize.ShloMosaic Idealize.SL.Sem Cert.Proof.Run

/-- The kernel's run leaves the projection in its result and the arguments as they were. -/
theorem run_value (m : (ℓ : Loc KernelIdeal.nD KernelIdeal.τ KernelIdeal.sig) → Buf (Elt Ideal) ℓ) (ρ : Dev KernelIdeal.nD → PrngReg)
    (hr : ∀ (d : Dev KernelIdeal.nD) (j : KernelIdeal.S100000.Idx), ((m (posLoc d) : KernelIdeal.S100000.Idx → BitVec 32) j).toNat < 100000) :
    θ_run (Cert.KernelIdeal.defs (F := Ideal)) (Cert.KernelIdeal.threads (F := Ideal)) ⟨m, fun _ => 0, ρ⟩ (fun r =>
      ∀ d : Dev KernelIdeal.nD,
        (r.2.mem ((d.tc : Thread KernelIdeal.nD KernelIdeal.τ).loc KernelIdeal.main_v20) : KernelIdeal.S100000x128.Idx → EReal)
            = projected (m (xLoc d)) (m (posLoc d)) (m (tabLoc d)) (m (wLoc d)) (m (bLoc d))
        ∧ r.2.mem (xLoc d) = m (xLoc d) ∧ r.2.mem (posLoc d) = m (posLoc d) ∧ r.2.mem (tabLoc d) = m (tabLoc d)
        ∧ r.2.mem (wLoc d) = m (wLoc d) ∧ r.2.mem (bLoc d) = m (bLoc d)) :=
  (θ_run (Cert.KernelIdeal.defs (F := Ideal)) _ _).mono (fun r h d => ⟨result_eq m d ((h.1 d).1 5), args_of_QC m r h d⟩)
    (run_main m ρ fun d j => padded_lt m d (hr d) j)

end Cert.Proof

end
-- ==== Proof.Reference.lean ====
/-
  The reference's result is the same projection: under the range of the positions its clipping, its wrapping of negative indices and its
  check of the range change nothing, and the product over the 144 joined columns is the sum of the products over 128 and 16.
-/
module

public import proofs.«01_k».proof.Proof.Result
public import proofs.«01_k».proof.Proof.Gen.ReferenceIdeal.Run
public import Idealize.ShloMosaic.Lib.StackMember

@[expose] public section

noncomputable section

namespace Cert.Proof.Ref

open Cert.ReferenceIdeal Cert.ReferenceIdeal.Gen

open Idealize.ShloMosaic Idealize.ShloMosaic.TcCoe Idealize.ShloMosaic.ValueIdx
open Idealize.SL.Sem
open scoped BigOperators

/-! ## The words of one position -/

/-- A position in the table is what clipping it gives. -/
theorem clip_word {p : BitVec 32} (h : p.toNat < 100000) : IntOp.minsi 99999#32 (IntOp.maxsi 0#32 p) = p := by
  have hi : p.toInt = (p.toNat : Int) := WordCmp.toInt_eq_toNat_of_lt_half (by omega)
  have h0 : IntOp.maxsi 0#32 p = p := by
    unfold IntOp.maxsi
    rw [if_neg]
    rw [BitVec.slt_iff_toInt_lt, hi, BitVec.toInt_zero]
    omega
  rw [h0]
  unfold IntOp.minsi
  split
  · next hs =>
    rw [BitVec.slt_iff_toInt_lt, hi] at hs
    have : (99999#32).toInt = 99999 := by decide
    omega
  · rfl

/-- It is not negative, and not above the table's last row. -/
theorem word_slt {p : BitVec 32} (h : p.toNat < 100000) : IntOp.cmpi .slt p 0#32 = 0#1 := by
  rw [WordCmp.cmpi_slt_zero, WordCmp.ofBool_decide_eq_zero_iff]; omega
theorem word_range {p : BitVec 32} (h : p.toNat < 100000) : IntOp.andi (IntOp.cmpi .sge p 0#32) (IntOp.cmpi .sle p 99999#32) = 1#1 := by
  have h1 : IntOp.cmpi .sge p 0#32 = 1#1 := by
    rw [WordCmp.cmpi_sge_zero, WordCmp.ofBool_decide_eq_one_iff]; omega
  have h2 : IntOp.cmpi .sle p 99999#32 = 1#1 := by
    rw [WordCmp.cmpi_sle_of_lt (by omega) (by decide), WordCmp.ofBool_decide_eq_one_iff]
    show p.toNat ≤ 99999
    omega
  rw [h1, h2]; rfl

/-! ## The positions as the reference prepares them -/

variable (pos : S100000.Idx → BitVec 32)

/-- The positions clipped to the table's rows. -/
abbrev clipped : IVec S100000 32 :=
  minsi (broadcastInDim S100000 ![] bcast_S_S100000 (id (constantI S_ 32 99999#32)))
    (maxsi (broadcastInDim S100000 ![] bcast_S_S100000 (id (constantI S_ 32 0#32))) pos)

/-- The same with negative ones counted from the end, as a column. -/
abbrev column : IVec S100000x1 32 :=
  broadcastInDim S100000x1 ![0] bcast_S100000_S100000x1_0
    (select (cmpi .slt (clipped pos) (broadcastInDim S100000 ![] bcast_S_S100000 (constantI S_ 32 0#32)))
      (addi (clipped pos) (broadcastInDim S100000 ![] bcast_S_S100000 (constantI S_ 32 100000#32))) (clipped pos))

/-- Which of them are in range. -/
abbrev inRange : IVec S100000 1 :=
  Host.reduce IntOp.andi
    (andi (cmpi .sge (column pos) (broadcastInDim S100000x1 ![] bcast_S_S100000x1 (constantI S_ 32 0#32)))
      (cmpi .sle (column pos) (broadcastInDim S100000x1 ![0, 1] bcast_S1x1_S100000x1_0_1 (broadcastInDim S1x1 ![1] bcast_S1_S1x1_1 (constantI S1 32 99999#32)))))
    (constantI S_ 1 1#1) reducesTo_S100000x1_S100000_d1 h_S_

variable {pos} (h : ∀ j, (pos j).toNat < 100000)
include h

theorem clipped_eq : clipped pos = pos := funext fun j => clip_word (h j)

theorem column_apply (n : Fin 100000) (u : Fin 1) : column pos (ix2 n u) = pos (ValueIdx.ix1 n) := by
  unfold column
  rw [clipped_eq h, broadcastInDim_apply _ _ _ _ (ValueIdx.ix1 n) (by intro a; fin_cases a; rfl), select_apply]
  show Scalar.select (IntOp.cmpi .slt (pos (ValueIdx.ix1 n)) 0#32) _ _ = _
  rw [word_slt (h _)]; rfl

theorem inRange_eq (j : S100000.Idx) : inRange pos j = 1#1 := by
  refine Host.reduce_andi_one _ _ _ _ _ rfl fun i => ?_
  show IntOp.andi (IntOp.cmpi .sge (column pos i) 0#32) (IntOp.cmpi .sle (column pos i) 99999#32) = 1#1
  rw [show column pos i = _ from (congrArg _ (eq_ix2 i)).trans (column_apply h (i 0) (i 1))]
  exact word_range (h _)

omit h in
/-- The rows of the table that a column of positions names. -/
theorem gather_apply {α : Type} (tab : S100000x16.Idx → α) (idx : IVec S100000x1 32) (n : Fin 100000) (p : Fin 16)
    (hx : (idx (ix2 n (0 : Fin 1))).toNat < 100000) :
    Host.gather gather_S100000x16_S100000x1_S100000x16_1_0_n_n_0_1_116 tab idx (ix2 n p)
      = tab (ix2 (Run.rowNo (idx (ix2 n (0 : Fin 1)))) p) := by
  unfold Host.gather
  congr 1
  funext a
  refine Fin.ext ?_
  show GatherDims.start _ (ix2 n p) idx a + GatherDims.batchCoord _ (ix2 n p) a + GatherDims.offCoord _ (ix2 n p) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (gather_S100000x16_S100000x1_S100000x16_1_0_n_n_0_1_116).startIndexMap from List.mem_singleton.mpr rfl)]
    have hsi : ∀ k, (gather_S100000x16_S100000x1_S100000x16_1_0_n_n_0_1_116).siIdx (ix2 n p) k = ix2 n (0 : Fin 1) := by
      intro k
      funext b; refine Fin.ext ?_
      match b with
      | ⟨0, _⟩ => rfl
      | ⟨1, _⟩ => exact Nat.lt_one_iff.mp (Fin.isLt _)
    rw [hsi, WordCmp.toInt_eq_toNat_of_lt_half (by omega), Int.toNat_natCast]
    show min (idx (ix2 n (0 : Fin 1))).toNat 99999 = (Run.rowNo (idx (ix2 n (0 : Fin 1)))).val
    rw [Run.rowNo_val hx]; omega
  · have hs : GatherDims.start gather_S100000x16_S100000x1_S100000x16_1_0_n_n_0_1_116 (ix2 n p) idx 1 = 0 := by
      unfold GatherDims.start
      rw [dif_neg (by decide)]
    rw [hs, Nat.zero_add]
    rfl

/-- What the reference takes from the table. -/
theorem take_apply (tab : S100000x16.Idx → EReal) (z : S100000x16.Idx → EReal) (n : Fin 100000) (p : Fin 16) :
    select (broadcastInDim S100000x16 ![0] bcast_S100000_S100000x16_0 (inRange pos))
        (Host.gather gather_S100000x16_S100000x1_S100000x16_1_0_n_n_0_1_116 tab (column pos)) z (ix2 n p)
      = tab (ix2 (Run.rowNo (pos (ValueIdx.ix1 n))) p) := by
  rw [select_apply, broadcastInDim_apply _ _ _ _ (ValueIdx.ix1 n) (by intro a; fin_cases a; rfl), inRange_eq h, select_one,
    gather_apply tab _ n p (by rw [column_apply h]; exact h _), column_apply h]

/-! ## The product -/

omit h in
/-- A sum over the joined columns, in its two parts. -/
theorem sum_joined (f : Fin 144 → EReal) :
    ∑ k : Fin 144, f k = (∑ k : Fin 128, f ⟨k.val, by omega⟩) + ∑ p : Fin 16, f ⟨128 + p.val, by omega⟩ :=
  Fin.sum_univ_add (a := 128) (b := 16) f

omit h in
/-- The joined rows: the first 128 columns are `x`'s, the last 16 the taken rows'. -/
theorem joined_left (x : S100000x128.Idx → EReal) (y : S100000x16.Idx → EReal) (n : Fin 100000) (k : Fin 128) :
    concatenate S100000x144 1 [⟨S100000x128, x⟩, ⟨S100000x16, y⟩] concatenates_S100000x128_S100000x16_S100000x144_d1
        (ix2 n (⟨k.val, by omega⟩ : Fin 144)) = x (ix2 n k) :=
  concatenate_pair_apply_left (t := S100000x144) (s₁ := S100000x128) (s₂ := S100000x16) 1 x y _ _ rfl (ix2 n k) fun a => by
    match a with
    | ⟨0, _⟩ => rfl
    | ⟨1, _⟩ => rfl
omit h in
theorem joined_right (x : S100000x128.Idx → EReal) (y : S100000x16.Idx → EReal) (n : Fin 100000) (p : Fin 16) :
    concatenate S100000x144 1 [⟨S100000x128, x⟩, ⟨S100000x16, y⟩] concatenates_S100000x128_S100000x16_S100000x144_d1
        (ix2 n (⟨128 + p.val, by omega⟩ : Fin 144)) = y (ix2 n p) :=
  concatenate_pair_apply_right (t := S100000x144) (s₁ := S100000x128) (s₂ := S100000x16) 1 x y _ _ rfl rfl (ix2 n p)
    (fun a ha => by
      match a, ha with
      | ⟨0, _⟩, _ => rfl
      | ⟨1, _⟩, ha => exact absurd rfl ha)
    (Nat.add_comm _ _)

/-- The reference's result. -/
theorem reference_eq (x : S100000x128.Idx → EReal) (tab : S100000x16.Idx → EReal) (W : S128x144.Idx → EReal) (b : S128.Idx → EReal)
    (z : S100000x16.Idx → EReal) :
    (addf (F := Ideal) (φ := .f32)
      (Host.dotGeneral (F := Ideal) (φ₁ := .f32) (φ₂ := .f32) dot_S100000x144_S144x128_S100000x128_1_0_0_1_n_n none
        (concatenate S100000x144 1 [⟨S100000x128, x⟩, ⟨S100000x16,
          select (broadcastInDim S100000x16 ![0] bcast_S100000_S100000x16_0 (inRange pos))
            (Host.gather gather_S100000x16_S100000x1_S100000x16_1_0_n_n_0_1_116 tab (column pos)) z⟩]
          concatenates_S100000x128_S100000x16_S100000x144_d1)
        (transpose S144x128 [1, 0] W transposes_S128x144_S144x128_1_0))
      (broadcastInDim S100000x128 ![0, 1] bcast_S1x128_S100000x128_0_1 (broadcastInDim S1x128 ![1] bcast_S128_S1x128_1 b)) : S100000x128.Idx → EReal)
      = Run.projected x pos tab W b := by
  funext i
  obtain ⟨n, j, rfl⟩ : ∃ (n : Fin 100000) (j : Fin 128), i = ix2 n j := ⟨i 0, i 1, eq_ix2 i⟩
  rw [addf_apply, Run.projected_apply]
  congr 1
  · refine (StackMember.dotGeneral_plain_apply none _ _ n j).trans ?_
    refine (sum_joined _).trans (congrArg₂ (· + ·) (Finset.sum_congr rfl fun k _ => ?_) (Finset.sum_congr rfl fun p _ => ?_))
    · exact congrArg₂ (· * ·) (joined_left x _ n k) (transpose_ix2_apply _ _ _ _)
    · exact congrArg₂ (· * ·) ((joined_right x _ n p).trans (take_apply h tab z n p)) (transpose_ix2_apply _ _ _ _)
  · rw [broadcastInDim_oneRow_apply]
    exact broadcastInDim_apply _ _ _ _ _ (by intro a; fin_cases a; rfl)

end Cert.Proof.Ref

end
-- ==== Proof.Claims.lean ====
/-
  The reference's frames, and the value claim: from memories that agree on the arguments, the kernel and the reference leave the same
  result.
-/
module

public import proofs.«01_k».proof.Proof.Reference
public import Idealize.ShloMosaic.Lib.Quiescent

@[expose] public section

noncomputable section

namespace Cert.Proof

open Idealize.ShloMosaic Idealize.ShloMosaic.TcCoe Idealize.SL.Sem

/-- The reference runs from every memory. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- In particular from those whose positions name rows of the table. -/
theorem frame_reference_pre : Cert.quiescent_ReferenceIdeal_pre_positions_in_table := fun m g _ => frame_reference m g trivial

/-- The reference's run leaves the projection in its result and the arguments as they were. -/
theorem run_reference (m : (ℓ : Loc ReferenceIdeal.nD ReferenceIdeal.τ ReferenceIdeal.sig) → Buf (Elt Ideal) ℓ)
    (g : Dev ReferenceIdeal.nD → PrngReg)
    (hr : ∀ (c : Dev ReferenceIdeal.nD) (j : ReferenceIdeal.S100000.Idx),
      ((m ((c.tc : Thread ReferenceIdeal.nD ReferenceIdeal.τ).loc ReferenceIdeal.main_arg1) : ReferenceIdeal.S100000.Idx → BitVec 32) j).toNat < 100000) :
    θ_run (Cert.ReferenceIdeal.defs (F := Ideal)) (onTc (τ := ReferenceIdeal.τ) (Cert.ReferenceIdeal.main (F := Ideal))) ⟨m, fun _ => 0, g⟩ fun r =>
      ∀ c : Dev ReferenceIdeal.nD,
        (r.2.mem ((c.tc : Thread ReferenceIdeal.nD ReferenceIdeal.τ).loc ReferenceIdeal.main_v7) : ReferenceIdeal.S100000x128.Idx → EReal)
            = Run.projected (m ((c.tc : Thread ReferenceIdeal.nD ReferenceIdeal.τ).loc ReferenceIdeal.main_arg0))
                (m ((c.tc : Thread ReferenceIdeal.nD ReferenceIdeal.τ).loc ReferenceIdeal.main_arg1))
                (m ((c.tc : Thread ReferenceIdeal.nD ReferenceIdeal.τ).loc ReferenceIdeal.main_arg2))
                (m ((c.tc : Thread ReferenceIdeal.nD ReferenceIdeal.τ).loc ReferenceIdeal.main_arg3))
                (m ((c.tc : Thread ReferenceIdeal.nD ReferenceIdeal.τ).loc ReferenceIdeal.main_arg4))
        ∧ r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4) :=
  (θ_run (Cert.ReferenceIdeal.defs (F := Ideal)) _ _).mono
    (fun _ h c => ⟨(h c).1.trans (Ref.reference_eq (hr c) _ _ _ _ _), (h c).2⟩)
    (Cert.ReferenceIdeal.Value.run (F := Ideal) m g)

/-- The kernel's result is the reference's. -/
theorem algebraic : Cert.algebraic_KernelIdeal_ReferenceIdeal := by
  intro m g m' g' hpre hagree
  have hr : ∀ (d : Dev KernelIdeal.nD) (j : KernelIdeal.S100000.Idx), ((m (Run.posLoc d) : KernelIdeal.S100000.Idx → BitVec 32) j).toNat < 100000 :=
    fun d j => Run.range_of_pre _ _ _ _ _ (hpre d) j
  refine ⟨fun d => Run.projected (m (Run.xLoc d)) (m (Run.posLoc d)) (m (Run.tabLoc d)) (m (Run.wLoc d)) (m (Run.bLoc d)), run_value m g hr, ?_⟩
  refine (θ_run (Cert.ReferenceIdeal.defs (F := Ideal)) _ _).mono (fun _ h c => ⟨(h c).1.trans ?_, (h c).2⟩)
    (run_reference m' g' fun c j => (congrFun (hagree c).2.1 j).symm ▸ hr c j)
  obtain ⟨h0, h1, h2, h3, h4⟩ := hagree c
  rw [h0, h1, h2, h3, h4]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_positions_in_table
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Pre_positions_in_table.Gen.facts,
    frame_kernel, frame_kernelIdeal, frame_reference, frame_reference_pre, trivial, algebraic⟩

end Cert.Proof

end
